-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x50x64 : Shape := ⟨3, ![4096, 50, 64]⟩
abbrev S64x64 : Shape := ⟨2, ![64, 64]⟩
abbrev S64 : Shape := ⟨1, ![64]⟩
abbrev S_ : Shape := ⟨0, ![]⟩

class Facts : Prop where
  bcast_S_S4096x50x64 : S_.BroadcastsInDim S4096x50x64 (![] : Fin 0 → Fin S4096x50x64.rank)
  reducesTo_S4096x50x64_S_d0_1_2 : S4096x50x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4096x50x64 .f32) (main_arg1 : FVec F S64x64 .f32) (main_arg2 : FVec F S64 .f32) (main_arg3 : FVec F S64 .f32) (main_arg4 : FVec F S64 .f32) : IVec S_ 1 :=
  let main_v0 : FVec F S4096x50x64 .f32 := Host.absf main_arg0
  let main_cst : FVec F S_ .f32 := constant S_ .f32 0x7F800000#32
  let main_v1 : FVec F S4096x50x64 .f32 := broadcastInDim S4096x50x64 ![] bcast_S_S4096x50x64 main_cst
  let main_v2 : IVec S4096x50x64 1 := cmpf .olt main_v0 main_v1
  let main_c : IVec S_ 1 := constantI S_ 1 1#1
  let main_v3 : IVec S_ 1 := (fun x v => Host.reduce IntOp.andi x v reducesTo_S4096x50x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S4096x50x64 : Shape := ⟨3, ![4096, 50, 64]⟩
abbrev S64x64 : Shape := ⟨2, ![64, 64]⟩
abbrev S64 : Shape := ⟨1, ![64]⟩
abbrev S50x1280 : Shape := ⟨2, ![50, 1280]⟩
abbrev S1x81920 : Shape := ⟨2, ![1, 81920]⟩
abbrev S64x1 : Shape := ⟨2, ![64, 1]⟩
abbrev S64x65 : Shape := ⟨2, ![64, 65]⟩
abbrev S_ : Shape := ⟨0, ![]⟩
abbrev S128x65 : Shape := ⟨2, ![128, 65]⟩
abbrev S100x1280 : Shape := ⟨2, ![100, 1280]⟩
abbrev S4096x1x1 : Shape := ⟨3, ![4096, 1, 1]⟩
abbrev S64x50x64 : Shape := ⟨3, ![64, 50, 64]⟩
abbrev S64x1x1 : Shape := ⟨3, ![64, 1, 1]⟩
abbrev S1x50x64 : Shape := ⟨3, ![1, 50, 64]⟩
abbrev S50x64 : Shape := ⟨2, ![50, 64]⟩
abbrev S64x1280 : Shape := ⟨2, ![64, 1280]⟩
abbrev S100x64 : Shape := ⟨2, ![100, 64]⟩
abbrev S100x65 : Shape := ⟨2, ![100, 65]⟩
abbrev S50x65 : Shape := ⟨2, ![50, 65]⟩
abbrev S228x65 : Shape := ⟨2, ![228, 65]⟩
abbrev S228x1280 : Shape := ⟨2, ![228, 1280]⟩
abbrev S65x1280 : Shape := ⟨2, ![65, 1280]⟩
abbrev S1x1280 : Shape := ⟨2, ![1, 1280]⟩
abbrev S64x81920 : Shape := ⟨2, ![64, 81920]⟩
abbrev S1 : Shape := ⟨1, ![1]⟩
abbrev S1x1 : Shape := ⟨2, ![1, 1]⟩
abbrev S1x1x1 : Shape := ⟨3, ![1, 1, 1]⟩

abbrev nBuf : Space → Nat
  | .hbm => 21
  | .vmem => 11
  | .smem => 0
  | _ => 0

abbrev bufTy : (tb : Table) → Fin (tcTables nBuf tb) → BufTy
  | .hbm, ⟨0, _⟩ => ⟨S4096x50x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S50x1280, .f32⟩
  | .hbm, ⟨6, _⟩ => ⟨S1x81920, .f32⟩
  | .hbm, ⟨7, _⟩ => ⟨S64x1, .f32⟩
  | .hbm, ⟨8, _⟩ => ⟨S64x65, .f32⟩
  | .hbm, ⟨9, _⟩ => ⟨S64x65, .bf16⟩
  | .hbm, ⟨10, _⟩ => ⟨S_, .f32⟩
  | .hbm, ⟨11, _⟩ => ⟨S64x65, .f32⟩
  | .hbm, ⟨12, _⟩ => ⟨S64x65, .f32⟩
  | .hbm, ⟨13, _⟩ => ⟨S64x65, .bf16⟩
  | .hbm, ⟨14, _⟩ => ⟨S128x65, .bf16⟩
  | .hbm, ⟨15, _⟩ => ⟨S64x1, .f32⟩
  | .hbm, ⟨16, _⟩ => ⟨S64x1, .f32⟩
  | .hbm, ⟨17, _⟩ => ⟨S64x1, .bf16⟩
  | .hbm, ⟨18, _⟩ => ⟨S50x1280, .bf16⟩
  | .hbm, ⟨19, _⟩ => ⟨S100x1280, .bf16⟩
  | .hbm, ⟨20, _⟩ => ⟨S4096x1x1, .f32⟩
  | .local _ .vmem, ⟨0, _⟩ => ⟨S64x50x64, .f32⟩
  | .local _ .vmem, ⟨1, _⟩ => ⟨S64x50x64, .f32⟩
  | .local _ .vmem, ⟨2, _⟩ => ⟨S64x65, .bf16⟩
  | .local _ .vmem, ⟨3, _⟩ => ⟨S128x65, .bf16⟩
  | .local _ .vmem, ⟨4, _⟩ => ⟨S64x1, .f32⟩
  | .local _ .vmem, ⟨5, _⟩ => ⟨S64x1, .bf16⟩
  | .local _ .vmem, ⟨6, _⟩ => ⟨S50x1280, .bf16⟩
  | .local _ .vmem, ⟨7, _⟩ => ⟨S100x1280, .bf16⟩
  | .local _ .vmem, ⟨8, _⟩ => ⟨S1x81920, .f32⟩
  | .local _ .vmem, ⟨9, _⟩ => ⟨S64x1x1, .f32⟩
  | .local _ .vmem, ⟨10, _⟩ => ⟨S64x1x1, .f32⟩
  | _, _ => ⟨S4096x50x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst_1 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x50x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x65 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x65 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x81920 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x50x64 : Shape := ⟨3, ![4096, 50, 64]⟩
abbrev S64x64 : Shape := ⟨2, ![64, 64]⟩
abbrev S64 : Shape := ⟨1, ![64]⟩
abbrev S1225 : Shape := ⟨1, ![1225]⟩
abbrev S_ : Shape := ⟨0, ![]⟩
abbrev S1225x1 : Shape := ⟨2, ![1225, 1]⟩
abbrev S4096x1225x64 : Shape := ⟨3, ![4096, 1225, 64]⟩
abbrev S1x1x64 : Shape := ⟨3, ![1, 1, 64]⟩
abbrev S4096x1225 : Shape := ⟨2, ![4096, 1225]⟩
abbrev S4096 : Shape := ⟨1, ![4096]⟩
abbrev S4096x1 : Shape := ⟨2, ![4096, 1]⟩
abbrev S4096x64 : Shape := ⟨2, ![4096, 64]⟩
abbrev S4096x1x1 : Shape := ⟨3, ![4096, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x50x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S1225, .i32⟩
  | .hbm, ⟨6, _⟩ => ⟨S1225, .i32⟩
  | .hbm, ⟨7, _⟩ => ⟨S_, .i32⟩
  | .hbm, ⟨8, _⟩ => ⟨S1225, .i32⟩
  | .hbm, ⟨9, _⟩ => ⟨S1225, .i1⟩
  | .hbm, ⟨10, _⟩ => ⟨S_, .i32⟩
  | .hbm, ⟨11, _⟩ => ⟨S1225, .i32⟩
  | .hbm, ⟨12, _⟩ => ⟨S1225, .i32⟩
  | .hbm, ⟨13, _⟩ => ⟨S1225, .i32⟩
  | .hbm, ⟨14, _⟩ => ⟨S1225x1, .i32⟩
  | .hbm, ⟨15, _⟩ => ⟨S4096x1225x64, .f32⟩
  | .hbm, ⟨16, _⟩ => ⟨S_, .i32⟩
  | .hbm, ⟨17, _⟩ => ⟨S1225, .i32⟩
  | .hbm, ⟨18, _⟩ => ⟨S1225, .i1⟩
  | .hbm, ⟨19, _⟩ => ⟨S_, .i32⟩
  | .hbm, ⟨20, _⟩ => ⟨S1225, .i32⟩
  | .hbm, ⟨21, _⟩ => ⟨S1225, .i32⟩
  | .hbm, ⟨22, _⟩ => ⟨S1225, .i32⟩
  | .hbm, ⟨23, _⟩ => ⟨S1225x1, .i32⟩
  | .hbm, ⟨24, _⟩ => ⟨S4096x1225x64, .f32⟩
  | .hbm, ⟨25, _⟩ => ⟨S4096x1225x64, .f32⟩
  | .hbm, ⟨26, _⟩ => ⟨S4096x1225x64, .f32⟩
  | .hbm, ⟨27, _⟩ => ⟨S1x1x64, .f32⟩
  | .hbm, ⟨28, _⟩ => ⟨S4096x1225x64, .f32⟩
  | .hbm, ⟨29, _⟩ => ⟨S4096x1225x64, .f32⟩
  | .hbm, ⟨30, _⟩ => ⟨S_, .f32⟩
  | .hbm, ⟨31, _⟩ => ⟨S4096x1225x64, .f32⟩
  | .hbm, ⟨32, _⟩ => ⟨S4096x1225x64, .f32⟩
  | .hbm, ⟨33, _⟩ => ⟨S4096x1225, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096x1, .f32⟩
  | .hbm, ⟨40, _⟩ => ⟨S4096x1225, .f32⟩
  | .hbm, ⟨41, _⟩ => ⟨S4096x1225, .f32⟩
  | .hbm, ⟨42, _⟩ => ⟨S4096x1225, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1225, .f32⟩
  | .hbm, ⟨47, _⟩ => ⟨S4096x1225, .f32⟩
  | .hbm, ⟨48, _⟩ => ⟨S4096x64, .f32⟩
  | .hbm, ⟨49, _⟩ => ⟨S4096, .f32⟩
  | .hbm, ⟨50, _⟩ => ⟨S4096x1x1, .f32⟩
  | _, _ => ⟨S4096x50x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_c_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_3 : Ref sig .tc := ⟨.hbm, 16, rfl⟩
abbrev main_v7 : Ref sig .tc := ⟨.hbm, 17, rfl⟩
abbrev main_v8 : Ref sig .tc := ⟨.hbm, 18, rfl⟩
abbrev main_c_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Proof.Body.lean ====
/- What the kernel's body stores, as one function of the row: every row of a block runs the same operations, so the
   sixty-four stores are one family, and the two long vectors that the rows share are concatenations of one family each. -/
module

public import proofs.«01_k».proof.Proof.Gen.KernelIdeal
public import Idealize.ShloMosaic.Lib.Pipeline.ValueKit

@[expose] public section

set_option maxRecDepth 16384

noncomputable section

namespace Cert.KernelIdeal.Body

open Cert.KernelIdeal Cert.KernelIdeal.Gen Idealize.ShloMosaic

variable {F : FTy → Type} [FloatOps F] [Named F]

/-- A row of the input block, one slab of the leading axis. -/
abbrev inRect (b : Fin 64) : Rect S64x50x64 := Rect.unit (s := S64x50x64) ![b.val, 0, 0] S1x50x64.size (by revert b; decide)

/-- A row of the output block, one entry. -/
abbrev outRect (b : Fin 64) : Rect S64x1x1 := Rect.unit (s := S64x1x1) ![b.val, 0, 0] S1x1x1.size (by revert b; decide)

/-- The squares of the pairwise sums of one row. -/
def sumSq (rs : FVec F S50x1280 .bf16) (x : Vec F S1x50x64 .f32) : FVec F S64x1280 .f32 :=
  mulf (matmul dot_S50x64_S50x1280_S64x1280_0_0_1_1_n_n none
      (truncf .bf16 (shapeCast S50x64 x shapeCasts_S1x50x64_S50x64) bitsLt_bf16_f32) rs (constant S64x1280 .f32 0x00000000#32))
    (matmul dot_S50x64_S50x1280_S64x1280_0_0_1_1_n_n none
      (truncf .bf16 (shapeCast S50x64 x shapeCasts_S1x50x64_S50x64) bitsLt_bf16_f32) rs (constant S64x1280 .f32 0x00000000#32))

/-- Minus half the squares of one row's entries. -/
def negHalfSq (x : Vec F S1x50x64 .f32) : FVec F S50x64 .f32 :=
  mulf (mulf (extf .f32 (truncf .bf16 (shapeCast S50x64 x shapeCasts_S1x50x64_S50x64) bitsLt_bf16_f32) bitsLt_bf16_f32)
      (extf .f32 (truncf .bf16 (shapeCast S50x64 x shapeCasts_S1x50x64_S50x64) bitsLt_bf16_f32) bitsLt_bf16_f32))
    (broadcast S50x64 (Scalar.ofBits .f32 0xBF000000#32))

/-- The upper part of the split of minus half the squares on top of its lower part. -/
def sqParts (x : Vec F S1x50x64 .f32) : FVec F S100x64 .bf16 :=
  concatenate S100x64 0 [⟨S50x64, truncf .bf16 (negHalfSq x) bitsLt_bf16_f32⟩,
    ⟨S50x64, truncf .bf16 (subf (negHalfSq x) (extf .f32 (truncf .bf16 (negHalfSq x) bitsLt_bf16_f32) bitsLt_bf16_f32)) bitsLt_bf16_f32⟩]
    concatenates_S50x64_S50x64_S100x64_d0

/-- The correction: minus half the squares through the weights, the split's two parts added. -/
def corr (w : FVec F S64x65 .bf16) (x : Vec F S1x50x64 .f32) : FVec F S50x65 .f32 :=
  addf (extractStridedSlice S50x65 ![0, 0] (matmul dot_S100x64_S64x65_S100x65_1_0_0_1_n_n none (sqParts x) w (constant S100x65 .f32 0x00000000#32)) slices_S100x65_o0_0_S50x65)
    (extractStridedSlice S50x65 ![50, 0] (matmul dot_S100x64_S64x65_S100x65_1_0_0_1_n_n none (sqParts x) w (constant S100x65 .f32 0x00000000#32)) slices_S100x65_o50_0_S50x65)

/-- The left operand of the long product: the halved weights over the two parts of the correction. -/
def longL (w : FVec F S64x65 .bf16) (wh : FVec F S128x65 .bf16) (x : Vec F S1x50x64 .f32) : FVec F S228x65 .bf16 :=
  concatenate S228x65 0 [⟨S128x65, wh⟩, ⟨S50x65, truncf .bf16 (corr w x) bitsLt_bf16_f32⟩,
    ⟨S50x65, truncf .bf16 (subf (corr w x) (extf .f32 (truncf .bf16 (corr w x) bitsLt_bf16_f32) bitsLt_bf16_f32)) bitsLt_bf16_f32⟩]
    concatenates_S128x65_S50x65_S50x65_S228x65_d0

/-- The right operand of the long product: the two parts of the squared sums over the doubled pair table. -/
def longR (rs : FVec F S50x1280 .bf16) (rs2 : FVec F S100x1280 .bf16) (x : Vec F S1x50x64 .f32) : FVec F S228x1280 .bf16 :=
  concatenate S228x1280 0 [⟨S64x1280, truncf .bf16 (sumSq rs x) bitsLt_bf16_f32⟩,
    ⟨S64x1280, truncf .bf16 (subf (sumSq rs x) (extf .f32 (truncf .bf16 (sumSq rs x) bitsLt_bf16_f32) bitsLt_bf16_f32)) bitsLt_bf16_f32⟩,
    ⟨S100x1280, rs2⟩] concatenates_S64x1280_S64x1280_S100x1280_S228x1280_d0

/-- The long product of one row: the hidden units before their bias, and the projected products below them. -/
def hq (w : FVec F S64x65 .bf16) (wh : FVec F S128x65 .bf16) (rs : FVec F S50x1280 .bf16) (rs2 : FVec F S100x1280 .bf16)
    (x : Vec F S1x50x64 .f32) : FVec F S65x1280 .f32 :=
  matmul dot_S228x65_S228x1280_S65x1280_0_0_1_1_n_n none (longL w wh x) (longR rs rs2 x) (constant S65x1280 .f32 0x00000000#32)

/-- The hidden units of one row. -/
def hid (w : FVec F S64x65 .bf16) (wh : FVec F S128x65 .bf16) (b1 : FVec F S64x1 .f32) (rs : FVec F S50x1280 .bf16)
    (rs2 : FVec F S100x1280 .bf16) (x : Vec F S1x50x64 .f32) : FVec F S64x1280 .bf16 :=
  truncf .bf16 (maximumf (addf (extractStridedSlice S64x1280 ![0, 0] (hq w wh rs rs2 x) slices_S65x1280_o0_0_S64x1280)
    (broadcastTo S64x1280 b1 broadcasts_S64x1_S64x1280)) (broadcast S64x1280 (Scalar.ofBits .f32 0x00000000#32))) bitsLt_bf16_f32

/-- The projected products of one row. -/
def qrow (w : FVec F S64x65 .bf16) (wh : FVec F S128x65 .bf16) (rs : FVec F S50x1280 .bf16) (rs2 : FVec F S100x1280 .bf16)
    (x : Vec F S1x50x64 .f32) : FVec F S1x1280 .f32 :=
  extractStridedSlice S1x1280 ![64, 0] (hq w wh rs rs2 x) slices_S65x1280_o64_0_S1x1280

/-- Sixty-four rows fill the long vectors. -/
theorem concRow : Shape.Concatenates (List.ofFn fun _ : Fin 64 => S1x1280) S1x81920 1 := by decide

/-- Sixty-four rows' hidden units fill the long array. -/
theorem concHid : Shape.Concatenates (List.ofFn fun _ : Fin 64 => S64x1280) S64x81920 1 := by decide

/-- All rows' projected products side by side. -/
def qAll (x0 : Vec F S64x50x64 .f32) (w : FVec F S64x65 .bf16) (wh : FVec F S128x65 .bf16) (rs : FVec F S50x1280 .bf16)
    (rs2 : FVec F S100x1280 .bf16) : FVec F S1x81920 .f32 :=
  concatenate S1x81920 1 (List.ofFn fun b : Fin 64 => ⟨S1x1280, qrow w wh rs rs2 (View.ld x0 (inRect b))⟩) (by
    rw [List.map_ofFn]; exact concRow)

/-- All rows' hidden units side by side. -/
def hAll (x0 : Vec F S64x50x64 .f32) (w : FVec F S64x65 .bf16) (wh : FVec F S128x65 .bf16) (b1 : FVec F S64x1 .f32)
    (rs : FVec F S50x1280 .bf16) (rs2 : FVec F S100x1280 .bf16) : FVec F S64x81920 .bf16 :=
  concatenate S64x81920 1 (List.ofFn fun b : Fin 64 => ⟨S64x1280, hid w wh b1 rs rs2 (View.ld x0 (inRect b))⟩) (by
    rw [List.map_ofFn]; exact concHid)

/-- The mask as the body makes it: the named literal at the entries where the mask input is negative, zero elsewhere. -/
def maskRow (x7 : Vec F S1x81920 .f32) : FVec F S1x81920 .f32 :=
  select (cmpf .olt x7 (broadcast S1x81920 (Scalar.ofBits .f32 0x00000000#32)))
    (broadcast S1x81920 (Named.named κ "mask" 0xF149F2CA#32)) (broadcast S1x81920 (Scalar.ofBits .f32 0x00000000#32))

/-- All rows' scores side by side. -/
def scores (x0 : Vec F S64x50x64 .f32) (w : FVec F S64x65 .bf16) (wh : FVec F S128x65 .bf16) (b1 : FVec F S64x1 .f32)
    (w2 : FVec F S64x1 .bf16) (rs : FVec F S50x1280 .bf16) (rs2 : FVec F S100x1280 .bf16) (x7 : Vec F S1x81920 .f32) : FVec F S1x81920 .f32 :=
  addf (matmul dot_S64x1_S64x81920_S1x81920_0_0_1_1_n_n none w2 (hAll x0 w wh b1 rs rs2) (constant S1x81920 .f32 0x00000000#32)) (maskRow x7)

/-- A row's stretch of the long vectors lies within them. -/
theorem slicesRow (b : Fin 64) : S1x81920.Slices ![0, 1280 * b.val] S1x1280 := by
  revert b; decide

/-- The weighted mean of one row's projected products, the weights the exponentials of its scores less their greatest. -/
def pooled (l q : FVec F S1x1280 .f32) : FVec F S1x1x1 .f32 :=
  shapeCast S1x1x1 (divf
    (shapeCast S1x1 (multiReduction .add [1] S1
      (mulf (exp (subf l (broadcastTo S1x1280 (shapeCast S1x1 (multiReduction .maximumf [1] S1 l 0xFF800000#32 reduces_S1x1280_S1 (.inl rfl) rfl) shapeCasts_S1_S1x1) broadcasts_S1x1_S1x1280))) q)
      0x00000000#32 reduces_S1x1280_S1 (.inl rfl) rfl) shapeCasts_S1_S1x1)
    (shapeCast S1x1 (multiReduction .add [1] S1
      (exp (subf l (broadcastTo S1x1280 (shapeCast S1x1 (multiReduction .maximumf [1] S1 l 0xFF800000#32 reduces_S1x1280_S1 (.inl rfl) rfl) shapeCasts_S1_S1x1) broadcasts_S1x1_S1x1280)))
      0x00000000#32 reduces_S1x1280_S1 (.inl rfl) rfl) shapeCasts_S1_S1x1)) shapeCasts_S1x1_S1x1x1

/-- The long vectors' stretch of one row, pooled. -/
def rowOut (l q : FVec F S1x81920 .f32) (b : Fin 64) : FVec F S1x1x1 .f32 :=
  pooled (extractStridedSlice S1x1280 ![0, 1280 * b.val] l (slicesRow b)) (extractStridedSlice S1x1280 ![0, 1280 * b.val] q (slicesRow b))

end Cert.KernelIdeal.Body

end
-- ==== Proof.Reals.lean ====
/- Facts about real numbers read as extended reals: finite sums, quotients, the greatest of finitely many entries, the
   weighted mean that a softmax takes, and the square of a sum of two fields. -/
module

public import Idealize.ShloMosaic.Lib.Pointwise
public import Mathlib.Tactic.Ring

@[expose] public section

noncomputable section

namespace Cert.Reals

open Idealize.ShloMosaic

/-- A finite sum of reals, read as extended reals, is the sum of the terms so read. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The quotient of two reals, the divisor not zero. -/
theorem div_real (a b : ℝ) (hb : b ≠ 0) : Ideal.div (a : EReal) (b : EReal) = ((a / b : ℝ) : EReal) := by
  rw [Ideal.div_coe hb, ← EReal.coe_mul]
  congr 1
  ring

/-- An extended real of finite magnitude is a real. -/
theorem real_of_abs_lt {x : EReal} (h : max x (-x) < ⊤) : x = ((x.toReal : ℝ) : EReal) := by
  have h1 : x ≠ ⊤ := fun hx => by subst hx; simp at h
  have h2 : x ≠ ⊥ := fun hx => by subst hx; simp at h
  exact (EReal.coe_toReal h1 h2).symm

/-- The greatest of finitely many extended reals, none of them infinite above and one of them not infinite below, is a real. -/
theorem fold_max_real {n : Nat} (f : Fin n → EReal) (k : Fin n) (hk : f k ≠ ⊥) (h : ∀ k, f k ≠ ⊤) :
    ∃ m : ℝ, (Finset.univ : Finset (Fin n)).fold max ⊥ f = (m : EReal) := by
  have h1 : (Finset.univ : Finset (Fin n)).fold max ⊥ f ≠ ⊤ := by
    refine ne_of_lt ((Finset.fold_max_lt _).2 ⟨bot_lt_top, fun x _ => lt_top_iff_ne_top.2 (h x)⟩)
  have h2 : (Finset.univ : Finset (Fin n)).fold max ⊥ f ≠ ⊥ := by
    refine ne_of_gt ((Finset.lt_fold_max _).2 (Or.inr ⟨k, Finset.mem_univ k, bot_lt_iff_ne_bot.2 hk⟩))
  exact ⟨_, (EReal.coe_toReal h1 h2).symm⟩

/-- The mean of `Q` weighted by the exponentials of `L`. -/
def wmean {n : Nat} (L Q : Fin n → ℝ) : ℝ := (∑ p, Real.exp (L p) * Q p) / ∑ p, Real.exp (L p)

/-- A sum of exponentials over at least one entry is positive. -/
theorem sum_exp_pos {n : Nat} (hn : 0 < n) (L : Fin n → ℝ) : 0 < ∑ p, Real.exp (L p) :=
  Finset.sum_pos (fun _ _ => Real.exp_pos _) ⟨⟨0, hn⟩, Finset.mem_univ _⟩

/-- Lowering every score by one number leaves the weighted mean as it is. -/
theorem wmean_shift {n : Nat} (L Q : Fin n → ℝ) (m : ℝ) : wmean (fun p => L p - m) Q = wmean L Q := by
  unfold wmean
  have h1 : ∀ p, Real.exp (L p - m) = Real.exp (-m) * Real.exp (L p) := fun p => by rw [← Real.exp_add]; congr 1; ring
  simp only [h1, mul_assoc, ← Finset.mul_sum]
  exact mul_div_mul_left _ _ (Real.exp_ne_zero _)

/-- A field function summed against the indicator of two different fields is the sum of its two values. -/
theorem sum_pair {n : Nat} (i j : Fin n) (hij : i ≠ j) (y : Fin n → ℝ) :
    ∑ f, y f * (if f = i ∨ f = j then (1 : ℝ) else 0) = y i + y j := by
  have h : ∀ f, y f * (if f = i ∨ f = j then (1 : ℝ) else 0) = (if f = i then y f else 0) + (if f = j then y f else 0) := by
    intro f
    by_cases h1 : f = i
    · subst h1; simp [hij]
    · by_cases h2 : f = j
      · subst h2; simp [h1]
      · simp [h1, h2]
  simp only [h, Finset.sum_add_distrib, Finset.sum_ite_eq', Finset.mem_univ, if_true]

/-- Half the squared sum of two fields less half of each square is their product, summed against weights. -/
theorem half_square {n m : Nat} (i j : Fin n) (hij : i ≠ j) (X : Fin n → Fin m → ℝ) (w : Fin m → ℝ) :
    (∑ d, (1 / 2 * w d) * (∑ f, X f d * (if f = i ∨ f = j then (1 : ℝ) else 0)) ^ 2)
      + ∑ f, (∑ d, (-(1 / 2) * (X f d) ^ 2) * w d) * (if f = i ∨ f = j then (1 : ℝ) else 0)
      = ∑ d, X i d * X j d * w d := by
  rw [sum_pair i j hij (fun f => ∑ d, (-(1 / 2) * (X f d) ^ 2) * w d)]
  simp only [sum_pair i j hij (fun f => X f _)]
  rw [← Finset.sum_add_distrib, ← Finset.sum_add_distrib]
  exact Finset.sum_congr rfl fun d _ => by ring

/-- A sum over 1280 columns of which the last 55 contribute nothing is the sum over the first 1225. -/
theorem sum_pad {M : Type} [AddCommMonoid M] (g : Fin 1280 → M) (h : ∀ k : Fin 1280, 1225 ≤ k.val → g k = 0) :
    ∑ k, g k = ∑ k : Fin 1225, g ⟨k.val, by omega⟩ := by
  have h1 := Fin.sum_univ_add (a := 1225) (b := 55) g
  refine h1.trans ?_
  rw [Finset.sum_eq_zero (s := (Finset.univ : Finset (Fin 55))) fun k _ => h _ (by simp), add_zero]
  rfl

/-- A sum over 228 rows, cut after 64, 128 and 178. -/
theorem sum_cut {M : Type} [AddCommMonoid M] (g : Fin 228 → M) :
    ∑ k, g k = (∑ k : Fin 64, g ⟨k.val, by omega⟩) + ((∑ k : Fin 64, g ⟨64 + k.val, by omega⟩)
      + ((∑ k : Fin 50, g ⟨128 + k.val, by omega⟩) + ∑ k : Fin 50, g ⟨178 + k.val, by omega⟩)) := by
  refine (Fin.sum_univ_add (a := 64) (b := 164) g).trans (congrArg₂ (· + ·) rfl ?_)
  refine (Fin.sum_univ_add (a := 64) (b := 100) fun k => g (Fin.natAdd 64 k)).trans (congrArg₂ (· + ·) rfl ?_)
  refine (Fin.sum_univ_add (a := 50) (b := 50) fun k => g (Fin.natAdd 64 (Fin.natAdd 64 k))).trans (congrArg₂ (· + ·) ?_ ?_)
  · exact Finset.sum_congr rfl fun k _ => congrArg g (Fin.ext (by simp; omega))
  · exact Finset.sum_congr rfl fun k _ => congrArg g (Fin.ext (by simp; omega))

/-- Dividing each weight by their sum and projecting afterwards is the weighted mean of the projections. -/
theorem project_mean {n k : Nat} (L : Fin n → ℝ) (q : Fin n → Fin k → ℝ) (P : Fin k → ℝ) :
    ∑ d, (∑ p, Real.exp (L p) / (∑ p, Real.exp (L p)) * q p d) * P d = wmean L fun p => ∑ d, q p d * P d := by
  unfold wmean
  simp only [Finset.sum_mul, Finset.mul_sum, Finset.sum_div]
  rw [Finset.sum_comm]
  refine Finset.sum_congr rfl fun p _ => Finset.sum_congr rfl fun d _ => ?_
  ring

/-- The score of a pair of fields: their product through the hidden layer. -/
def score (x y : Fin 64 → ℝ) (W : Fin 64 → Fin 64 → ℝ) (B w2 : Fin 64 → ℝ) : ℝ :=
  ∑ a, w2 a * max ((∑ d, x d * y d * W d a) + B a) 0

/-- The projection of a pair's product. -/
def proj (x y P : Fin 64 → ℝ) : ℝ := ∑ d, x d * y d * P d

/-- Pooling one row of fields over the pairs `i0 p < i1 p`. -/
def pool (i0 i1 : Fin 1225 → Fin 50) (X : Fin 50 → Fin 64 → ℝ) (W : Fin 64 → Fin 64 → ℝ) (B w2 P : Fin 64 → ℝ) : ℝ :=
  wmean (fun p => score (X (i0 p)) (X (i1 p)) W B w2) (fun p => proj (X (i0 p)) (X (i1 p)) P)

end Cert.Reals

end
-- ==== Proof.Consts.lean ====
/- The float constants that the two programs spell, as the extended reals they denote. -/
module

public import Idealize.ShloMosaic.PureOps.Ideal

@[expose] public section

noncomputable section

namespace Cert.Consts

open Idealize.ShloMosaic

/-- One. -/
theorem one_f32 : Ideal.ofBits .f32 0x3F800000#32 = ((1 : ℝ) : EReal) := by
  simp [Ideal.ofBits, Ideal.ieee, -EReal.coe_mul]; norm_num

/-- One half. -/
theorem half_f32 : Ideal.ofBits .f32 0x3F000000#32 = (((1 : ℝ) / 2 : ℝ) : EReal) := by
  simp [Ideal.ofBits, Ideal.ieee, -EReal.coe_mul]; norm_num

/-- Minus one half. -/
theorem neg_half_f32 : Ideal.ofBits .f32 0xBF000000#32 = ((-((1 : ℝ) / 2) : ℝ) : EReal) := by
  simp [Ideal.ofBits, Ideal.ieee, -EReal.coe_mul, -EReal.coe_neg]; norm_num

/-- Minus infinity. -/
theorem neg_inf_f32 : Ideal.ofBits .f32 0xFF800000#32 = ⊥ := by
  simp [Ideal.ofBits, Ideal.ieee]

/-- Plus infinity. -/
theorem inf_f32 : Ideal.ofBits .f32 0x7F800000#32 = ⊤ := by
  simp [Ideal.ofBits, Ideal.ieee]

/-- The mask literal is negative. -/
theorem mask_neg : Ideal.ofBits .f32 0xF149F2CA#32 < 0 := by
  simp [Ideal.ofBits, Ideal.ieee, -EReal.coe_mul, -EReal.coe_neg]

/-- Zero. -/
theorem zero_f32 : Ideal.ofBits .f32 0x00000000#32 = ((0 : ℝ) : EReal) := by
  simp [Ideal.ofBits, Ideal.ieee]

end Cert.Consts

end
-- ==== Proof.RowValue.lean ====
/- One row of the kernel's body over real entries: the long product is the weighted sums of the fields' products. -/
module

public import proofs.«01_k».proof.Proof.Body
public import proofs.«01_k».proof.Proof.Reals
public import proofs.«01_k».proof.Proof.Consts
public import Idealize.ShloMosaic.Lib.Pointwise

@[expose] public section

set_option maxRecDepth 16384

noncomputable section

namespace Cert.KernelIdeal.RowValue

open Cert.KernelIdeal Cert.KernelIdeal.Gen Cert.KernelIdeal.Body Cert.Reals Cert.Consts Idealize.ShloMosaic

variable {x : Vec Ideal S1x50x64 .f32} {rs : FVec Ideal S50x1280 .bf16} {rs2 : FVec Ideal S100x1280 .bf16}
  {w : FVec Ideal S64x65 .bf16} {wh : FVec Ideal S128x65 .bf16}
  {X : Fin 50 → Fin 64 → ℝ} {R : Fin 50 → Fin 1280 → ℝ} {W : Fin 64 → Fin 65 → ℝ}

/-- The squares of the pairwise sums. -/
theorem sumSq_val (hx : ∀ f d, x (ix3 0 f d) = ((X f d : ℝ) : EReal)) (hr : ∀ f p, rs (ix2 f p) = ((R f p : ℝ) : EReal))
    (d : Fin 64) (p : Fin 1280) : sumSq rs x (ix2 d p) = (((∑ f, X f d * R f p) ^ 2 : ℝ) : EReal) := by
  pointwise [sumSq]
  simp only [hx, hr, ← EReal.coe_mul, coe_sum, sq]

/-- Minus half the squares. -/
theorem negHalfSq_val (hx : ∀ f d, x (ix3 0 f d) = ((X f d : ℝ) : EReal)) (f : Fin 50) (d : Fin 64) :
    negHalfSq x (ix2 f d) = ((-(1 / 2) * X f d ^ 2 : ℝ) : EReal) := by
  pointwise [negHalfSq]
  rw [neg_half_f32, hx, ← EReal.coe_mul, ← EReal.coe_mul]
  congr 1
  ring

/-- The correction is minus half the squares through the weights. -/
theorem corr_val (hx : ∀ f d, x (ix3 0 f d) = ((X f d : ℝ) : EReal)) (hw : ∀ d a, w (ix2 d a) = ((W d a : ℝ) : EReal))
    (f : Fin 50) (a : Fin 65) : corr w x (ix2 f a) = ((∑ d, (-(1 / 2) * X f d ^ 2) * W d a : ℝ) : EReal) := by
  pointwise [corr, sqParts]
  simp only [negHalfSq_val hx, hw, ← EReal.coe_sub, sub_self, ← EReal.coe_mul, coe_sum, zero_mul, Finset.sum_const_zero, ← EReal.coe_add, add_zero]

/-- The long product: half the weights against the squared sums, and the correction against the pair table. -/
theorem hq_val (hx : ∀ f d, x (ix3 0 f d) = ((X f d : ℝ) : EReal)) (hr : ∀ f p, rs (ix2 f p) = ((R f p : ℝ) : EReal))
    (hr2 : ∀ (k : Fin 100) p, rs2 (ix2 k p) = ((R ⟨k.val % 50, by omega⟩ p : ℝ) : EReal))
    (hw : ∀ d a, w (ix2 d a) = ((W d a : ℝ) : EReal))
    (hwh : ∀ (k : Fin 128) a, wh (ix2 k a) = ((1 / 2 * W ⟨k.val % 64, by omega⟩ a : ℝ) : EReal))
    (a : Fin 65) (p : Fin 1280) : hq w wh rs rs2 x (ix2 a p)
      = (((∑ d, (1 / 2 * W d a) * (∑ f, X f d * R f p) ^ 2)
          + ∑ f, (∑ d, (-(1 / 2) * X f d ^ 2) * W d a) * R f p : ℝ) : EReal) := by
  pointwise [hq, longL, longR]
  rw [sum_cut]
  have e1 : ∀ k : Fin 64, (64 + k.val < 128) = True := fun k => eq_true (by omega)
  have e2 : ∀ k : Fin 64, (k.val < 128) = True := fun k => eq_true (by omega)
  have e3 : ∀ k : Fin 64, (64 + k.val < 64) = False := fun k => eq_false (by omega)
  have e4 : ∀ k : Fin 50, (128 + k.val < 128) = False := fun k => eq_false (by omega)
  have e5 : ∀ k : Fin 50, (178 + k.val < 128) = False := fun k => eq_false (by omega)
  have e6 : ∀ k : Fin 50, (128 + k.val < 64) = False := fun k => eq_false (by omega)
  have e7 : ∀ k : Fin 50, (178 + k.val < 64) = False := fun k => eq_false (by omega)
  have e8 : ∀ k : Fin 50, (128 + k.val - 128 < 50) = True := fun k => eq_true (by omega)
  have e9 : ∀ k : Fin 50, (178 + k.val - 128 < 50) = False := fun k => eq_false (by omega)
  have f1 : ∀ k : Fin 64, (64 + k.val - 64 < 64) = True := fun k => eq_true (by omega)
  have f2 : ∀ k : Fin 50, (128 + k.val - 64 < 64) = False := fun k => eq_false (by omega)
  have f3 : ∀ k : Fin 50, (178 + k.val - 64 < 64) = False := fun k => eq_false (by omega)
  have g1 : ∀ k : Fin 64, k.val % 64 = k.val := fun k => Nat.mod_eq_of_lt k.isLt
  have g2 : ∀ k : Fin 50, 128 + k.val - 128 = k.val := fun k => by omega
  have g3 : ∀ k : Fin 50, (128 + k.val - 64 - 64) % 50 = k.val := fun k => by omega
  simp only [e1, e2, e3, e4, e5, e6, e7, e8, e9, f1, f2, f3, Fin.is_lt, dite_true, dite_false, hwh, hr2, corr_val hx hw, sumSq_val hx hr,
    ← EReal.coe_sub, sub_self, ← EReal.coe_mul, coe_sum, mul_zero, zero_mul, Finset.sum_const_zero, ← EReal.coe_add, add_zero, zero_add, g1, g2, g3]

end Cert.KernelIdeal.RowValue

end
-- ==== Proof.PoolValue.lean ====
/- The kernel's scores and its weighted mean over real entries: each row's output is the softmax-weighted mean of the
   projected products of the row's fields. -/
module

public import proofs.«01_k».proof.Proof.RowValue

@[expose] public section

set_option maxRecDepth 16384

noncomputable section

namespace Cert.Reals

/-- The pair table: ones at a pair's two fields, zeros in the padded columns. -/
def pairR (i0 i1 : Fin 1225 → Fin 50) (f : Fin 50) (p : Fin 1280) : ℝ :=
  if h : p.val < 1225 then (if f = i0 ⟨p.val, h⟩ ∨ f = i1 ⟨p.val, h⟩ then 1 else 0) else 0

/-- The hidden layer's weights with the projection as one more column. -/
def wide (W : Fin 64 → Fin 64 → ℝ) (P : Fin 64 → ℝ) (d : Fin 64) (a : Fin 65) : ℝ :=
  if h : a.val < 64 then W d ⟨a.val, h⟩ else P d

end Cert.Reals

namespace Cert.KernelIdeal.PoolValue

open Cert.KernelIdeal Cert.KernelIdeal.Gen Cert.KernelIdeal.Body Cert.Reals Cert.Consts Idealize.ShloMosaic

/-- The weighted mean over a row whose padded scores are minus infinity is the mean over its pairs. -/
theorem pooled_val {l q : FVec Ideal S1x1280 .f32} {L Q : Fin 1225 → ℝ}
    (hL : ∀ p : Fin 1225, l (ix2 0 ⟨p.val, by omega⟩) = ((L p : ℝ) : EReal))
    (hP : ∀ p : Fin 1280, 1225 ≤ p.val → l (ix2 0 p) = ⊥)
    (hQ : ∀ p : Fin 1225, q (ix2 0 ⟨p.val, by omega⟩) = ((Q p : ℝ) : EReal)) (y : S1x1x1.Idx) :
    pooled l q y = ((wmean L Q : ℝ) : EReal) := by
  pointwise [pooled]
  rw [neg_inf_f32]
  obtain ⟨m, hm⟩ := fold_max_real (fun k : Fin 1280 => l (ix2 0 k)) ⟨0, by omega⟩
    (by rw [show (⟨0, by omega⟩ : Fin 1280) = ⟨(⟨0, by omega⟩ : Fin 1225).val, by simp⟩ from rfl, hL]; exact EReal.coe_ne_bot _)
    (fun k => by
      by_cases hk : k.val < 1225
      · rw [show k = ⟨(⟨k.val, hk⟩ : Fin 1225).val, k.isLt⟩ from rfl, hL]; exact EReal.coe_ne_top _
      · rw [hP k (by omega)]; exact bot_ne_top)
  rw [hm, sum_pad _ fun k hk => by rw [hP k hk, EReal.bot_sub, Ideal.exp_bot, zero_mul],
    sum_pad _ fun k hk => by rw [hP k hk, EReal.bot_sub, Ideal.exp_bot]]
  simp only [hL, hQ, ← EReal.coe_sub, Ideal.exp_coe, ← EReal.coe_mul, coe_sum]
  rw [div_real _ _ (sum_exp_pos (by omega) fun p => L p - m).ne', ← wmean_shift L Q m]
  rfl

/-- A mask entry of zero adds nothing. -/
theorem mask_zero (x7 : Vec Ideal S1x81920 .f32) (j : S1x81920.Idx) (h : x7 j = 0) : maskRow x7 j = 0 := by
  pointwise [maskRow]
  rw [h, if_neg (lt_irrefl _)]

/-- A negative mask entry is minus infinity. -/
theorem mask_bot (x7 : Vec Ideal S1x81920 .f32) (j : S1x81920.Idx) (h : x7 j < 0) : maskRow x7 j = ⊥ := by
  pointwise [maskRow]
  rw [if_pos h]
  exact IdealRules.named_const.ideal_named_scalar _ _ _ _ rfl

/-- What the kernel's inputs hold at one grid point, over real entries. -/
structure Blocks (x0 : Vec Ideal S64x50x64 .f32) (w : FVec Ideal S64x65 .bf16) (wh : FVec Ideal S128x65 .bf16) (b1 : FVec Ideal S64x1 .f32)
    (w2 : FVec Ideal S64x1 .bf16) (rs : FVec Ideal S50x1280 .bf16) (rs2 : FVec Ideal S100x1280 .bf16) (x7 : Vec Ideal S1x81920 .f32)
    (i0 i1 : Fin 1225 → Fin 50) (X : Fin 64 → Fin 50 → Fin 64 → ℝ) (W : Fin 64 → Fin 64 → ℝ) (B W2 P : Fin 64 → ℝ) : Prop where
  ne : ∀ p, i0 p ≠ i1 p
  hx : ∀ b f d, x0 (ix3 b f d) = ((X b f d : ℝ) : EReal)
  hw : ∀ d a, w (ix2 d a) = ((wide W P d a : ℝ) : EReal)
  hwh : ∀ (k : Fin 128) a, wh (ix2 k a) = ((1 / 2 * wide W P ⟨k.val % 64, by omega⟩ a : ℝ) : EReal)
  hb : ∀ a, b1 (ix2 a 0) = ((B a : ℝ) : EReal)
  hw2 : ∀ a, w2 (ix2 a 0) = ((W2 a : ℝ) : EReal)
  hr : ∀ f p, rs (ix2 f p) = ((pairR i0 i1 f p : ℝ) : EReal)
  hr2 : ∀ (k : Fin 100) p, rs2 (ix2 k p) = ((pairR i0 i1 ⟨k.val % 50, by omega⟩ p : ℝ) : EReal)
  hm0 : ∀ (b : Fin 64) (p : Fin 1280), p.val < 1225 → x7 (ix2 0 ⟨1280 * b.val + p.val, by omega⟩) = 0
  hm1 : ∀ (b : Fin 64) (p : Fin 1280), 1225 ≤ p.val → x7 (ix2 0 ⟨1280 * b.val + p.val, by omega⟩) < 0

section
variable {x0 : Vec Ideal S64x50x64 .f32} {w : FVec Ideal S64x65 .bf16} {wh : FVec Ideal S128x65 .bf16} {b1 : FVec Ideal S64x1 .f32}
    {w2 : FVec Ideal S64x1 .bf16} {rs : FVec Ideal S50x1280 .bf16} {rs2 : FVec Ideal S100x1280 .bf16} {x7 : Vec Ideal S1x81920 .f32}
    {i0 i1 : Fin 1225 → Fin 50} {X : Fin 64 → Fin 50 → Fin 64 → ℝ} {W : Fin 64 → Fin 64 → ℝ} {B W2 P : Fin 64 → ℝ}
    (h : Blocks x0 w wh b1 w2 rs rs2 x7 i0 i1 X W B W2 P)
include h

/-- A row of the block, loaded. -/
theorem Blocks.row (b : Fin 64) (f : Fin 50) (d : Fin 64) :
    (View.ld x0 (inRect b) : Vec Ideal S1x50x64 .f32) (ix3 0 f d) = ((X b f d : ℝ) : EReal) := by
  rw [← h.hx b f d]
  pointwise

/-- The long product is a real at every column. -/
theorem Blocks.hq_real (b : Fin 64) (a : Fin 65) (p : Fin 1280) :
    ∃ r : ℝ, hq w wh rs rs2 (View.ld x0 (inRect b)) (ix2 a p) = ((r : ℝ) : EReal) :=
  ⟨_, RowValue.hq_val (h.row b) h.hr h.hr2 h.hw h.hwh a p⟩

/-- The long product at a pair's column is the weighted sum of the pair's products. -/
theorem Blocks.hq_pair (b : Fin 64) (a : Fin 65) (p : Fin 1225) :
    hq w wh rs rs2 (View.ld x0 (inRect b)) (ix2 a ⟨p.val, by omega⟩)
      = ((∑ d, X b (i0 p) d * X b (i1 p) d * wide W P d a : ℝ) : EReal) := by
  rw [RowValue.hq_val (h.row b) h.hr h.hr2 h.hw h.hwh a ⟨p.val, by omega⟩, ← half_square (i0 p) (i1 p) (h.ne p) (X b)]
  simp only [pairR, p.isLt, dite_true]

/-- The projected products of a row in the long vector. -/
theorem Blocks.q_pair (b : Fin 64) (p : Fin 1225) :
    extractStridedSlice S1x1280 ![0, 1280 * b.val] (qAll x0 w wh rs rs2) (slicesRow b) (ix2 0 ⟨p.val, by omega⟩)
      = ((proj (X b (i0 p)) (X b (i1 p)) P : ℝ) : EReal) := by
  have e : qAll x0 w wh rs rs2 (ix2 0 ⟨1280 * b.val + p.val, by omega⟩)
      = qrow w wh rs rs2 (View.ld x0 (inRect b)) (ix2 0 ⟨p.val, by omega⟩) := by
    unfold qAll
    refine concatenate_ofFn_apply (s₁ := S1x1280) (t := S1x81920) 1 _ _ rfl 1280 rfl _ b ?_ _ ?_ ?_
    · show (1280 * b.val + p.val) / 1280 = b.val
      omega
    · show p.val = (1280 * b.val + p.val) % 1280
      omega
    · intro a ha
      match a with
      | ⟨0, _⟩ => rfl
      | ⟨1, _⟩ => exact absurd rfl ha
  pointwise
  rw [e]
  pointwise [qrow]
  rw [h.hq_pair b 64 p]
  rfl

/-- The hidden units of a row in the long array. -/
theorem hAll_at (b : Fin 64) (a : Fin 64) (p : Fin 1280) :
    hAll x0 w wh b1 rs rs2 (ix2 a ⟨1280 * b.val + p.val, by omega⟩)
      = max (hq w wh rs rs2 (View.ld x0 (inRect b)) (ix2 ⟨a.val, by omega⟩ p) + b1 (ix2 a 0)) 0 := by
  have e : hAll x0 w wh b1 rs rs2 (ix2 a ⟨1280 * b.val + p.val, by omega⟩)
      = hid w wh b1 rs rs2 (View.ld x0 (inRect b)) (ix2 a p) := by
    unfold hAll
    refine concatenate_ofFn_apply (s₁ := S64x1280) (t := S64x81920) 1 _ _ rfl 1280 rfl _ b ?_ _ ?_ ?_
    · show (1280 * b.val + p.val) / 1280 = b.val
      omega
    · show p.val = (1280 * b.val + p.val) % 1280
      omega
    · intro a ha
      match a with
      | ⟨0, _⟩ => rfl
      | ⟨1, _⟩ => exact absurd rfl ha
  rw [e]
  pointwise [hid]

/-- The scores of a row's pairs in the long vector. -/
theorem Blocks.l_pair (b : Fin 64) (p : Fin 1225) :
    extractStridedSlice S1x1280 ![0, 1280 * b.val] (scores x0 w wh b1 w2 rs rs2 x7) (slicesRow b) (ix2 0 ⟨p.val, by omega⟩)
      = ((score (X b (i0 p)) (X b (i1 p)) W B W2 : ℝ) : EReal) := by
  pointwise [scores]
  rw [mask_zero _ _ (h.hm0 b ⟨p.val, by omega⟩ p.isLt), add_zero]
  have e : ∀ a : Fin 64, hAll x0 w wh b1 rs rs2 (ix2 a ⟨1280 * b.val + p.val, by omega⟩)
      = ((max ((∑ d, X b (i0 p) d * X b (i1 p) d * W d a) + B a) 0 : ℝ) : EReal) := by
    intro a
    rw [hAll_at h b a ⟨p.val, by omega⟩, h.hq_pair b ⟨a.val, by omega⟩ p, h.hb, ← EReal.coe_add, ← EReal.coe_zero,
      ← EReal.coe_strictMono.monotone.map_max]
    simp only [wide, a.isLt, dite_true]
  simp only [e, h.hw2, ← EReal.coe_mul, coe_sum]
  rfl

/-- The scores of a row's padded columns are minus infinity. -/
theorem Blocks.l_pad (b : Fin 64) (p : Fin 1280) (hp : 1225 ≤ p.val) :
    extractStridedSlice S1x1280 ![0, 1280 * b.val] (scores x0 w wh b1 w2 rs rs2 x7) (slicesRow b) (ix2 0 p) = ⊥ := by
  pointwise [scores]
  rw [mask_bot _ _ (h.hm1 b p hp), EReal.add_bot]

/-- A ROW'S OUTPUT is the pooling of the row over the pairs. -/
theorem Blocks.rowOut_val (b : Fin 64) (y : S1x1x1.Idx) :
    rowOut (scores x0 w wh b1 w2 rs rs2 x7) (qAll x0 w wh rs rs2) b y = ((pool i0 i1 (X b) W B W2 P : ℝ) : EReal) :=
  pooled_val (h.l_pair b) (h.l_pad b) (h.q_pair b) y

end

end Cert.KernelIdeal.PoolValue

end
-- ==== Proof.BodyEq.lean ====
/- The body's stores are the family of the rows: the printed values unfold to it. -/
module

public import proofs.«01_k».proof.Proof.Gen.KernelIdeal.Frame
public import proofs.«01_k».proof.Proof.Body

@[expose] public section

set_option maxRecDepth 16384

noncomputable section

namespace Cert.KernelIdeal.Body

open Cert.KernelIdeal Cert.KernelIdeal.Gen Idealize.ShloMosaic

variable {F : FTy → Type} [FloatOps F] [Named F]

variable (x0 : Vec F S64x50x64 .f32) (x1 : Vec F S64x65 .bf16) (x2 : Vec F S128x65 .bf16) (x3 : Vec F S64x1 .f32)
  (x4 : Vec F S64x1 .bf16) (x5 : Vec F S50x1280 .bf16) (x6 : Vec F S100x1280 .bf16) (x7 : Vec F S1x81920 .f32)

/-- A whole load cast to its own shape. -/
abbrev w0 : FVec F S64x65 .bf16 := shapeCast S64x65 (View.ld x1 r0_0) shapeCasts_S64x65_S64x65
abbrev wh0 : FVec F S128x65 .bf16 := shapeCast S128x65 (View.ld x2 r0_1) shapeCasts_S128x65_S128x65
abbrev b10 : FVec F S64x1 .f32 := shapeCast S64x1 (View.ld x3 r0_2) shapeCasts_S64x1_S64x1
abbrev w20 : FVec F S64x1 .bf16 := shapeCast S64x1 (View.ld x4 r0_2) shapeCasts_S64x1_S64x1
abbrev rs0 : FVec F S50x1280 .bf16 := shapeCast S50x1280 (View.ld x5 r0_3) shapeCasts_S50x1280_S50x1280
abbrev rs20 : FVec F S100x1280 .bf16 := shapeCast S100x1280 (View.ld x6 r0_4) shapeCasts_S100x1280_S100x1280

/-- The first long vector is the family of the rows' projected products. -/
theorem q_eq : k0_pay705 x0 x1 x2 x3 x4 x5 x6 x7 = qAll x0 (w0 x1) (wh0 x2) (rs0 x5) (rs20 x6) := rfl

/-- The second long vector is the rows' scores. -/
theorem l_eq : k0_pay706 x0 x1 x2 x3 x4 x5 x6 x7
    = scores x0 (w0 x1) (wh0 x2) (b10 x3) (w20 x4) (rs0 x5) (rs20 x6) (View.ld x7 r0_5) := rfl

/-- The stores are one family over the rows, the last row first. -/
theorem out_eq : out0_8 x0 x1 x2 x3 x4 x5 x6 x7
    = View.canon (List.ofFn fun k : Fin 64 => (⟨outRect k.rev, rowOut
        (k0_pay706 x0 x1 x2 x3 x4 x5 x6 x7) (k0_pay705 x0 x1 x2 x3 x4 x5 x6 x7) k.rev⟩ : View.Piece (Elt F) S64x1x1 .f32)) := rfl

end Cert.KernelIdeal.Body

end
-- ==== Proof.HostValue.lean ====
/- What the kernel's windows hold when the launch starts, over real arguments. -/
module

public import proofs.«01_k».proof.Proof.Gen.KernelIdeal.Frame
public import proofs.«01_k».proof.Proof.PoolValue
public import proofs.«01_k».proof.Proof.BodyEq
public import Idealize.ShloMosaic.Lib.Claim
public import Idealize.ShloMosaic.Lib.Tactic.CleanTypes
public import Idealize.ShloMosaic.Lib.Pipeline.ValueKit

@[expose] public section

set_option maxRecDepth 16384

noncomputable section

namespace Cert.KernelIdeal.HostValue

open Cert.KernelIdeal Cert.KernelIdeal.Gen Cert.Reals Cert.Consts Idealize.ShloMosaic Idealize.ShloMosaic.TcCoe

variable (m : (ℓ : Loc nD τ sig) → Buf (Elt Ideal) ℓ) (c : Dev nD)
  {X : Fin 4096 → Fin 50 → Fin 64 → ℝ} {W : Fin 64 → Fin 64 → ℝ} {B W2 P : Fin 64 → ℝ}

/-- The hidden layer's weights with the projection as the last column. -/
theorem w_val (hw : ∀ d a, (m ((c.tc : Thread nD τ).loc main_arg1) : FVec Ideal S64x64 .f32) (ix2 d a) = ((W d a : ℝ) : EReal))
    (hp : ∀ a, (m ((c.tc : Thread nD τ).loc main_arg4) : FVec Ideal S64 .f32) (ix1 a) = ((P a : ℝ) : EReal)) (d : Fin 64) (a : Fin 65) :
    (V m c main_call0_v2 : FVec Ideal S64x65 .bf16) (ix2 d a) = ((wide W P d a : ℝ) : EReal) := by
  entry_read
  simp only [StableHlo.TRef.toBuf, StableHlo.TRef.ofBuf, cast_eq]
  clean_types
  pointwise
  unfold wide
  split
  · exact hw d _
  · exact hp d

/-- Twice the halved weights, one under the other. -/
theorem wh_val (hw : ∀ d a, (m ((c.tc : Thread nD τ).loc main_arg1) : FVec Ideal S64x64 .f32) (ix2 d a) = ((W d a : ℝ) : EReal))
    (hp : ∀ a, (m ((c.tc : Thread nD τ).loc main_arg4) : FVec Ideal S64 .f32) (ix1 a) = ((P a : ℝ) : EReal)) (k : Fin 128) (a : Fin 65) :
    (V m c main_call0_v6 : FVec Ideal S128x65 .bf16) (ix2 k a) = ((1 / 2 * wide W P ⟨k.val % 64, by omega⟩ a : ℝ) : EReal) := by
  have e : ∀ d : Fin 64, (if h : a.val < 64 then (m ((c.tc : Thread nD τ).loc main_arg1) : FVec Ideal S64x64 .f32) (ix2 d ⟨a.val, h⟩)
      else (m ((c.tc : Thread nD τ).loc main_arg4) : FVec Ideal S64 .f32) (ix1 d)) = ((wide W P d a : ℝ) : EReal) := by
    intro d
    unfold wide
    split
    · exact hw d _
    · exact hp d
  entry_read
  simp only [StableHlo.TRef.toBuf, StableHlo.TRef.ofBuf, cast_eq]
  clean_types
  pointwise
  rw [half_f32]
  rcases Nat.lt_or_ge k.val 64 with hk | hk
  · rw [dif_pos hk, show (⟨k.val % 64, by omega⟩ : Fin 64) = ⟨k.val, hk⟩ from Fin.ext (by simp; omega), EReal.coe_mul]
    exact congrArg _ (e ⟨k.val, hk⟩)
  · rw [dif_neg (by omega), show (⟨k.val % 64, by omega⟩ : Fin 64) = ⟨k.val - 64, by omega⟩ from Fin.ext (by simp; omega), EReal.coe_mul]
    exact congrArg _ (e ⟨k.val - 64, by omega⟩)

/-- The hidden layer's bias as a column. -/
theorem b_val (hb : ∀ a, (m ((c.tc : Thread nD τ).loc main_arg2) : FVec Ideal S64 .f32) (ix1 a) = ((B a : ℝ) : EReal)) (a : Fin 64) :
    (V m c main_call0_v7 : FVec Ideal S64x1 .f32) (ix2 a 0) = ((B a : ℝ) : EReal) := by
  entry_read
  simp only [StableHlo.TRef.toBuf, StableHlo.TRef.ofBuf, cast_eq]
  clean_types
  pointwise
  exact hb a

/-- The scores' weights as a column. -/
theorem w2_val (hb : ∀ a, (m ((c.tc : Thread nD τ).loc main_arg3) : FVec Ideal S64 .f32) (ix1 a) = ((W2 a : ℝ) : EReal)) (a : Fin 64) :
    (V m c main_call0_v9 : FVec Ideal S64x1 .bf16) (ix2 a 0) = ((W2 a : ℝ) : EReal) := by
  entry_read
  simp only [StableHlo.TRef.toBuf, StableHlo.TRef.ofBuf, cast_eq]
  clean_types
  pointwise
  exact hb a

/-- An entry of the pair table by its row and column. -/
theorem lit0_at (f : Fin 50) (p : Fin 1280) : lit0 (S50x1280.rowMajor (ix2 f p)) = lit0t (f.val * 1280 + p.val) :=
  congrArg lit0t (Shape.rowMajor_val_two _)

/-- An entry of the mask table by its column. -/
theorem lit1_at (p : Fin 81920) : lit1 (S1x81920.rowMajor (ix2 0 p)) = lit1t p.val :=
  congrArg lit1t ((Shape.rowMajor_val_two _).trans (by show 0 * 81920 + p.val = p.val; omega))

/-- The pair table. -/
theorem rs_val (f : Fin 50) (p : Fin 1280) :
    (V m c main_call0_v10 : FVec Ideal S50x1280 .bf16) (ix2 f p) = Ideal.ofBits .f32 (lit0t (f.val * 1280 + p.val)) := by
  entry_read
  simp only [StableHlo.TRef.toBuf, StableHlo.TRef.ofBuf, cast_eq]
  clean_types
  pointwise
  rw [lit0_at]

/-- The pair table twice, one under the other. -/
theorem rs2_val (k : Fin 100) (p : Fin 1280) :
    (V m c main_call0_v11 : FVec Ideal S100x1280 .bf16) (ix2 k p) = Ideal.ofBits .f32 (lit0t (k.val % 50 * 1280 + p.val)) := by
  entry_read
  simp only [StableHlo.TRef.toBuf, StableHlo.TRef.ofBuf, cast_eq]
  clean_types
  pointwise
  rcases Nat.lt_or_ge k.val 50 with hk | hk
  · rw [dif_pos hk, lit0_at, Nat.mod_eq_of_lt hk]
  · rw [dif_neg (by omega), lit0_at, show k.val % 50 = k.val - 50 by omega]

/-- The mask table. -/
theorem mneg_val (p : Fin 81920) :
    (V m c main_call0_cst_0 : FVec Ideal S1x81920 .f32) (ix2 0 p) = Ideal.ofBits .f32 (lit1t p.val) := by
  entry_read
  simp only [StableHlo.TRef.toBuf, StableHlo.TRef.ofBuf, cast_eq]
  clean_types
  pointwise
  rw [lit1_at]

/-- The rows' window moves by one block a point. -/
theorem idx_x : ∀ t : Fin cfg0.N, win0_0.index t (0 : Fin 3) = t.val ∧ win0_0.index t (1 : Fin 3) = 0 ∧ win0_0.index t (2 : Fin 3) = 0 := by
  decide +kernel

/-- The other windows stay at the first block. -/
theorem idx_rest : ∀ t : Fin cfg0.N, (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) := by
  decide +kernel

/-- A block of the rows. -/
theorem blk_x (t : Fin cfg0.N) (b : Fin 64) (f : Fin 50) (d : Fin 64) (h : 64 * t.val + b.val < 4096) :
    (iblk m c 0 t : FVec Ideal S64x50x64 .f32) (ix3 b f d)
      = (m ((c.tc : Thread nD τ).loc main_arg0) : FVec Ideal S4096x50x64 .f32) (ix3 ⟨64 * t.val + b.val, h⟩ f d) := by
  obtain ⟨h0, h1, h2⟩ := idx_x t
  unfold iblk
  entry_read
  blk_ext [h0, h1, h2]

/-- The block of the weights is the whole array. -/
theorem blk_w (t : Fin cfg0.N) (i : Fin 64) (j : Fin 65) :
    Body.w0 (iblk m c 1 t : FVec Ideal S64x65 .bf16) (ix2 i j) = (V m c main_call0_v2 : FVec Ideal S64x65 .bf16) (ix2 i j) := by
  have h := (idx_rest t).1
  pointwise [Body.w0]
  unfold iblk
  blk_ext [h]

/-- The block of the halved weights is the whole array. -/
theorem blk_wh (t : Fin cfg0.N) (i : Fin 128) (j : Fin 65) :
    Body.wh0 (iblk m c 2 t : FVec Ideal S128x65 .bf16) (ix2 i j) = (V m c main_call0_v6 : FVec Ideal S128x65 .bf16) (ix2 i j) := by
  have h := (idx_rest t).2.1
  pointwise [Body.wh0]
  unfold iblk
  blk_ext [h]

/-- The block of the bias is the whole column. -/
theorem blk_b (t : Fin cfg0.N) (i : Fin 64) :
    Body.b10 (iblk m c 3 t : FVec Ideal S64x1 .f32) (ix2 i 0) = (V m c main_call0_v7 : FVec Ideal S64x1 .f32) (ix2 i 0) := by
  have h := (idx_rest t).2.2.1
  pointwise [Body.b10]
  unfold iblk
  blk_ext [h]

/-- The block of the scores' weights is the whole column. -/
theorem blk_w2 (t : Fin cfg0.N) (i : Fin 64) :
    Body.w20 (iblk m c 4 t : FVec Ideal S64x1 .bf16) (ix2 i 0) = (V m c main_call0_v9 : FVec Ideal S64x1 .bf16) (ix2 i 0) := by
  have h := (idx_rest t).2.2.2.1
  pointwise [Body.w20]
  unfold iblk
  blk_ext [h]

/-- The block of the pair table is the whole table. -/
theorem blk_rs (t : Fin cfg0.N) (i : Fin 50) (j : Fin 1280) :
    Body.rs0 (iblk m c 5 t : FVec Ideal S50x1280 .bf16) (ix2 i j) = (V m c main_call0_v10 : FVec Ideal S50x1280 .bf16) (ix2 i j) := by
  have h := (idx_rest t).2.2.2.2.1
  pointwise [Body.rs0]
  unfold iblk
  blk_ext [h]

/-- The block of the doubled pair table is the whole table. -/
theorem blk_rs2 (t : Fin cfg0.N) (i : Fin 100) (j : Fin 1280) :
    Body.rs20 (iblk m c 6 t : FVec Ideal S100x1280 .bf16) (ix2 i j) = (V m c main_call0_v11 : FVec Ideal S100x1280 .bf16) (ix2 i j) := by
  have h := (idx_rest t).2.2.2.2.2.1
  pointwise [Body.rs20]
  unfold iblk
  blk_ext [h]

/-- The block of the mask is the whole mask. -/
theorem blk_m (t : Fin cfg0.N) (j : Fin 81920) :
    (View.ld (iblk m c 7 t : FVec Ideal S1x81920 .f32) r0_5 : Vec Ideal S1x81920 .f32) (ix2 0 j)
      = (V m c main_call0_cst_0 : FVec Ideal S1x81920 .f32) (ix2 0 j) := by
  have h := (idx_rest t).2.2.2.2.2.2
  pointwise
  unfold iblk
  blk_ext [h]

end Cert.KernelIdeal.HostValue

end
-- ==== Proof.Tables.lean ====
/- What the kernel's two tables are to hold, row by row. -/
module

public import proofs.«01_k».proof.KernelIdeal
public import Idealize.ShloMosaic.Lib.Decide

@[expose] public section

namespace Cert.KernelIdeal.Tables

open Cert.KernelIdeal Idealize.ShloMosaic

/-- The position of the pair `i < j` among the fifty fields' pairs in lexicographic order. -/
def pidx (i j : Nat) : Nat := i * (99 - i) / 2 + (j - i - 1)

/-- Row `f` of the pair table: ones at the columns of the pairs that `f` is a field of, zeros elsewhere. -/
def PairRow (f : Nat) : Prop :=
  (∀ i j : Fin 50, i < j → lit0t (f * 1280 + pidx i.val j.val) = if f = i.val ∨ f = j.val then 0x3F800000#32 else 0#32)
    ∧ ∀ p : Fin 55, lit0t (f * 1280 + (1225 + p.val)) = 0#32

/-- A row's entries are compared one by one. -/
noncomputable instance (f : Nat) : Decidable (PairRow f) := inferInstanceAs (Decidable (_ ∧ _))

/-- The mask of one block row: zero at the columns of pairs, a large negative number at the padded ones. -/
def MaskRow (b : Nat) : Prop := ∀ p : Fin 1280, lit1t (1280 * b + p.val) = if p.val < 1225 then 0#32 else 0xF149F2CA#32

/-- A row's entries are compared one by one. -/
noncomputable instance (b : Nat) : Decidable (MaskRow b) := inferInstanceAs (Decidable (∀ p : Fin 1280, _))

end Cert.KernelIdeal.Tables
-- ==== Proof.MaskLow.lean ====
/- The lower half of the mask table. -/
module

public import proofs.«01_k».proof.Proof.Tables
public import Mathlib.Tactic.FinCases

@[expose] public section

set_option maxRecDepth 100000
set_option maxHeartbeats 0

namespace Cert.KernelIdeal.Tables

/-- The first 32 rows of the mask are as they are to be. -/
theorem mask_low : ∀ k : Fin 16, MaskRow (2 * k.val) ∧ MaskRow (2 * k.val + 1) := by
  intro k
  fin_cases k <;> decide +kernel

end Cert.KernelIdeal.Tables
-- ==== Proof.MaskHigh.lean ====
/- The upper half of the mask table. -/
module

public import proofs.«01_k».proof.Proof.Tables
public import Mathlib.Tactic.FinCases

@[expose] public section

set_option maxRecDepth 100000
set_option maxHeartbeats 0

namespace Cert.KernelIdeal.Tables

/-- The last 32 rows of the mask are as they are to be. -/
theorem mask_high : ∀ k : Fin 16, MaskRow (32 + 2 * k.val) ∧ MaskRow (32 + (2 * k.val + 1)) := by
  intro k
  fin_cases k <;> decide +kernel

end Cert.KernelIdeal.Tables
-- ==== Proof.PairLow.lean ====
/- The lower half of the pair table. -/
module

public import proofs.«01_k».proof.Proof.Tables
public import Mathlib.Tactic.FinCases

@[expose] public section

set_option maxRecDepth 100000
set_option maxHeartbeats 0

namespace Cert.KernelIdeal.Tables

/-- The first 26 rows of the pair table are as they are to be. -/
theorem pair_low : ∀ k : Fin 13, PairRow (2 * k.val) ∧ PairRow (2 * k.val + 1) := by
  intro k
  fin_cases k <;> decide +kernel

end Cert.KernelIdeal.Tables
-- ==== Proof.PairHigh.lean ====
/- The upper half of the pair table. -/
module

public import proofs.«01_k».proof.Proof.Tables
public import Mathlib.Tactic.FinCases

@[expose] public section

set_option maxRecDepth 100000
set_option maxHeartbeats 0

namespace Cert.KernelIdeal.Tables

/-- The last 24 rows of the pair table are as they are to be. -/
theorem pair_high : ∀ k : Fin 12, PairRow (26 + 2 * k.val) ∧ PairRow (26 + (2 * k.val + 1)) := by
  intro k
  fin_cases k <;> decide +kernel

end Cert.KernelIdeal.Tables
-- ==== Proof.RefTables.lean ====
/- The reference's two index tables: the first and second field of each of the 1225 pairs. -/
module

public import proofs.«01_k».proof.ReferenceIdeal
public import Idealize.ShloMosaic.Lib.Decide

@[expose] public section

set_option maxRecDepth 65536

namespace Cert.ReferenceIdeal.Tables

open Cert.ReferenceIdeal Idealize.ShloMosaic

/-- A table's word at `p`, a negative one counted from the end, as the gather receives it. -/
def wrap (v : BitVec 32) : BitVec 32 := if v.slt 0#32 then v + 50#32 else v

/-- The gathered position of a word among the 50 fields. -/
def pos (v : BitVec 32) : Nat := min (wrap v).toInt.toNat 49

/-- The first field of pair `p`. -/
noncomputable def i0 (p : Fin 1225) : Fin 50 := ⟨pos (lit0t p.val), by unfold pos; omega⟩

/-- The second field of pair `p`. -/
noncomputable def i1 (p : Fin 1225) : Fin 50 := ⟨pos (lit1t p.val), by unfold pos; omega⟩

/-- The pairs are ordered by first field, then by second. -/
theorem pair_order : ∀ p : Fin 1225, pos (lit0t p.val) < pos (lit1t p.val)
    ∧ pos (lit0t p.val) * (99 - pos (lit0t p.val)) / 2 + (pos (lit1t p.val) - pos (lit0t p.val) - 1) = p.val := by
  decide +kernel

end Cert.ReferenceIdeal.Tables
-- ==== Proof.TableFacts.lean ====
/- The kernel's tables over reals: the pair table has ones at the two fields of the reference's pairs. -/
module

public import proofs.«01_k».proof.Proof.MaskLow
public import proofs.«01_k».proof.Proof.MaskHigh
public import proofs.«01_k».proof.Proof.PairLow
public import proofs.«01_k».proof.Proof.PairHigh
public import proofs.«01_k».proof.Proof.RefTables
public import proofs.«01_k».proof.Proof.PoolValue

@[expose] public section

noncomputable section

namespace Cert.TableFacts

open Cert.KernelIdeal Cert.KernelIdeal.Tables Cert.ReferenceIdeal.Tables Cert.Reals Cert.Consts Idealize.ShloMosaic

/-- Every row of the pair table. -/
theorem pair_row (f : Fin 50) : PairRow f.val := by
  have e : ∀ n k, PairRow (n + 2 * k) ∧ PairRow (n + (2 * k + 1)) → ∀ x, x = n + 2 * k ∨ x = n + (2 * k + 1) → PairRow x := by
    rintro n k ⟨h0, h1⟩ x (rfl | rfl)
    · exact h0
    · exact h1
  rcases Nat.lt_or_ge f.val 26 with h | h
  · refine e 0 (f.val / 2) ?_ _ (by omega)
    simpa using pair_low ⟨f.val / 2, by omega⟩
  · exact e 26 ((f.val - 26) / 2) (pair_high ⟨(f.val - 26) / 2, by omega⟩) _ (by omega)

/-- Every row of the mask. -/
theorem mask_row (b : Fin 64) : MaskRow b.val := by
  have e : ∀ n k, MaskRow (n + 2 * k) ∧ MaskRow (n + (2 * k + 1)) → ∀ x, x = n + 2 * k ∨ x = n + (2 * k + 1) → MaskRow x := by
    rintro n k ⟨h0, h1⟩ x (rfl | rfl)
    · exact h0
    · exact h1
  rcases Nat.lt_or_ge b.val 32 with h | h
  · refine e 0 (b.val / 2) ?_ _ (by omega)
    simpa using mask_low ⟨b.val / 2, by omega⟩
  · exact e 32 ((b.val - 32) / 2) (mask_high ⟨(b.val - 32) / 2, by omega⟩) _ (by omega)

/-- The two fields of a pair differ. -/
theorem pair_ne (p : Fin 1225) : i0 p ≠ i1 p := fun h => (pair_order p).1.ne (congrArg Fin.val h)

/-- An entry of the pair table is a real: one at a pair's two fields, zero elsewhere. -/
theorem pair_real (f : Fin 50) (p : Fin 1280) : Ideal.ofBits .f32 (lit0t (f.val * 1280 + p.val)) = ((pairR i0 i1 f p : ℝ) : EReal) := by
  unfold pairR
  split
  · next h =>
    obtain ⟨h0, h1⟩ := pair_order ⟨p.val, h⟩
    have e := (pair_row f).1 (i0 ⟨p.val, h⟩) (i1 ⟨p.val, h⟩) h0
    have hp : pidx (i0 ⟨p.val, h⟩).val (i1 ⟨p.val, h⟩).val = p.val := h1
    rw [hp] at e
    rw [e]
    simp only [Fin.ext_iff]
    split
    · exact one_f32
    · exact zero_f32
  · next h =>
    have e : ∀ (k : Fin 55) q, q = 1225 + k.val → lit0t (f.val * 1280 + q) = 0#32 := by
      rintro k _ rfl
      exact (pair_row f).2 k
    exact (congrArg (Ideal.ofBits .f32) (e ⟨p.val - 1225, by omega⟩ p.val (by show p.val = 1225 + (p.val - 1225); omega))).trans zero_f32

/-- The mask of a pair's column is zero. -/
theorem mask_pair (b : Fin 64) (p : Fin 1280) (h : p.val < 1225) : Ideal.ofBits .f32 (lit1t (1280 * b.val + p.val)) = 0 := by
  rw [mask_row b p, if_pos h]
  exact zero_f32.trans EReal.coe_zero

/-- The mask of a padded column is negative. -/
theorem mask_pad (b : Fin 64) (p : Fin 1280) (h : 1225 ≤ p.val) : Ideal.ofBits .f32 (lit1t (1280 * b.val + p.val)) < 0 := by
  rw [mask_row b p, if_neg (by omega)]
  exact mask_neg

end Cert.TableFacts

end
-- ==== Proof.KernelValue.lean ====
/- The kernel's result array over real arguments: every row's pooled prediction. -/
module

public import proofs.«01_k».proof.Proof.HostValue
public import proofs.«01_k».proof.Proof.TableFacts

@[expose] public section

set_option maxRecDepth 16384

noncomputable section

namespace Cert.KernelIdeal.KernelValue

open Cert.KernelIdeal Cert.KernelIdeal.Gen Cert.KernelIdeal.Body Cert.KernelIdeal.PoolValue Cert.KernelIdeal.HostValue
open Cert.ReferenceIdeal.Tables Cert.TableFacts Cert.Reals Cert.Consts Idealize.ShloMosaic Idealize.SL.Sem

variable (m : (ℓ : Loc nD τ sig) → Buf (Elt Ideal) ℓ) (c : Dev nD)

/-- The arguments' entries as reals. -/
structure RealArgs (X : Fin 4096 → Fin 50 → Fin 64 → ℝ) (W : Fin 64 → Fin 64 → ℝ) (B W2 P : Fin 64 → ℝ) : Prop where
  hx : ∀ n f d, (m ((c.tc : Thread nD τ).loc main_arg0) : FVec Ideal S4096x50x64 .f32) (ix3 n f d) = ((X n f d : ℝ) : EReal)
  hw : ∀ d a, (m ((c.tc : Thread nD τ).loc main_arg1) : FVec Ideal S64x64 .f32) (ix2 d a) = ((W d a : ℝ) : EReal)
  hb : ∀ a, (m ((c.tc : Thread nD τ).loc main_arg2) : FVec Ideal S64 .f32) (ix1 a) = ((B a : ℝ) : EReal)
  hw2 : ∀ a, (m ((c.tc : Thread nD τ).loc main_arg3) : FVec Ideal S64 .f32) (ix1 a) = ((W2 a : ℝ) : EReal)
  hp : ∀ a, (m ((c.tc : Thread nD τ).loc main_arg4) : FVec Ideal S64 .f32) (ix1 a) = ((P a : ℝ) : EReal)

variable {m c} {X : Fin 4096 → Fin 50 → Fin 64 → ℝ} {W : Fin 64 → Fin 64 → ℝ} {B W2 P : Fin 64 → ℝ}

/-- The rows of one grid point lie in the batch. -/
theorem row_lt (t : Fin cfg0.N) (b : Fin 64) : 64 * t.val + b.val < 4096 := by
  have h : t.val < 64 := t.isLt
  omega

/-- What one grid point's body loads. -/
theorem blocks (h : RealArgs m c X W B W2 P) (t : Fin cfg0.N) :
    Blocks (iblk m c 0 t) (w0 (iblk m c 1 t)) (wh0 (iblk m c 2 t)) (b10 (iblk m c 3 t)) (w20 (iblk m c 4 t)) (rs0 (iblk m c 5 t))
      (rs20 (iblk m c 6 t)) (View.ld (iblk m c 7 t) r0_5) i0 i1 (fun b => X ⟨64 * t.val + b.val, row_lt t b⟩) W B W2 P where
  ne := pair_ne
  hx b f d := (blk_x m c t b f d (row_lt t b)).trans (h.hx _ f d)
  hw d a := (blk_w m c t d a).trans (w_val m c h.hw h.hp d a)
  hwh k a := (blk_wh m c t k a).trans (wh_val m c h.hw h.hp k a)
  hb a := (blk_b m c t a).trans (b_val m c h.hb a)
  hw2 a := (blk_w2 m c t a).trans (w2_val m c h.hw2 a)
  hr f p := ((blk_rs m c t f p).trans (rs_val m c f p)).trans (pair_real f p)
  hr2 k p := ((blk_rs2 m c t k p).trans (rs2_val m c k p)).trans (pair_real ⟨k.val % 50, by omega⟩ p)
  hm0 b p hp := ((blk_m m c t _).trans (mneg_val m c _)).trans (mask_pair b p hp)
  hm1 b p hp := by
    rw [(blk_m m c t _).trans (mneg_val m c _)]
    exact mask_pad b p hp

/-- The stored rows, read at an index: the row it lies in. -/
theorem rows_at (l q : FVec Ideal S1x81920 .f32) (y : S64x1x1.Idx) (v : EReal)
    (h : ∀ (k : Fin 64) (x : S1x1x1.Idx), k = y (0 : Fin 3) → rowOut l q k x = v) :
    View.canon (List.ofFn fun k : Fin 64 => (⟨outRect k.rev, rowOut l q k.rev⟩ : View.Piece (Elt Ideal) S64x1x1 .f32)) y = v := by
  refine View.canon_ofFn_unit_eq_of_forall (Val := Elt Ideal) (e := .f32) (S := S64x1x1) (fun k : Fin 64 => ![k.rev.val, 0, 0]) S1x1x1.size
    (fun k => by revert k; decide) (fun k : Fin 64 => rowOut l q k.rev) y v ⟨Fin.rev (y (0 : Fin 3)), ?_⟩ ?_
  · intro a
    have e : Fin.rev (Fin.rev (y (0 : Fin 3))) = y (0 : Fin 3) := Fin.rev_rev _
    have l1 : (y (1 : Fin 3)).val < 1 := (y (1 : Fin 3)).isLt
    have l2 : (y (2 : Fin 3)).val < 1 := (y (2 : Fin 3)).isLt
    fin_cases a
    · show (Fin.rev (Fin.rev (y (0 : Fin 3)))).val ≤ (y (0 : Fin 3)).val ∧ (y (0 : Fin 3)).val < (Fin.rev (Fin.rev (y (0 : Fin 3)))).val + 1
      rw [e]
      omega
    · exact ⟨Nat.zero_le _, l1⟩
    · exact ⟨Nat.zero_le _, l2⟩
  · intro k x hx
    have e0 : (y (0 : Fin 3)).val = k.rev.val + (x (0 : Fin 3)).val := hx 0
    have e1 : (x (0 : Fin 3)).val < 1 := (x (0 : Fin 3)).isLt
    exact h k.rev x (Fin.ext (by omega))

/-- One grid point's result at a row. -/
theorem out_val (h : RealArgs m c X W B W2 P) (t : Fin cfg0.N) (y : S64x1x1.Idx) :
    out0_8 (iblk m c 0 t) (iblk m c 1 t) (iblk m c 2 t) (iblk m c 3 t) (iblk m c 4 t) (iblk m c 5 t) (iblk m c 6 t) (iblk m c 7 t) y
      = ((pool i0 i1 (X ⟨64 * t.val + (y (0 : Fin 3)).val, row_lt t (y (0 : Fin 3))⟩) W B W2 P : ℝ) : EReal) := by
  rw [out_eq, l_eq, q_eq]
  refine rows_at _ _ y _ fun k x e => ?_
  subst e
  exact (blocks h t).rowOut_val (y (0 : Fin 3)) x

/-- The output window moves with the grid point. -/
theorem idx_out : ∀ t : Fin cfg0.N, win0_8.index t (0 : Fin 3) = t.val ∧ win0_8.index t (1 : Fin 3) = 0 ∧ win0_8.index t (2 : Fin 3) = 0 := by
  decide +kernel

/-- The result array after the run: every row's prediction. -/
theorem final (h : RealArgs m c X W B W2 P) :
    (dats m 0 c).arrAt 8 cfg0.N = fun y : S4096x1x1.Idx => ((pool i0 i1 (X (y (0 : Fin 3))) W B W2 P : ℝ) : EReal) := by
  refine (dats m 0 c).arrAt_eq_of_covers 8 _ (by decide +kernel) fun t hf y => ?_
  obtain ⟨h0, h1, h2⟩ := idx_out t
  blk_simp
  rw [after0_8]
  refine (out_val h t y).trans (congrArg (fun n => ((pool i0 i1 (X n) W B W2 P : ℝ) : EReal)) (Fin.ext ?_))
  show 64 * t.val + (y (0 : Fin 3)).val = _
  blk_simp [h0]
  omega

end Cert.KernelIdeal.KernelValue

end
-- ==== Proof.RefParts.lean ====
/- The reference's result in named steps, each read at an index. -/
module

public import proofs.«01_k».proof.Proof.Gen.ReferenceIdeal.Run
public import proofs.«01_k».proof.Proof.RefTables
public import proofs.«01_k».proof.Proof.Reals
public import proofs.«01_k».proof.Proof.Consts
public import Idealize.ShloMosaic.Lib.Pointwise

@[expose] public section

set_option maxRecDepth 16384

noncomputable section

namespace Cert.ReferenceIdeal.Parts

open Cert.ReferenceIdeal Cert.ReferenceIdeal.Gen Cert.Reals Cert.Consts Idealize.ShloMosaic

section
variable {F : FTy → Type} [FloatOps F]

/-- The start indices of a table of fields, negative ones counted from the end. -/
def starts (t : IVec S1225 32) : IVec S1225x1 32 :=
  broadcastInDim S1225x1 ![0] bcast_S1225_S1225x1_0 (select (cmpi .slt t (broadcastInDim S1225 ![] bcast_S_S1225 (constantI S_ 32 0#32)))
    (addi t (broadcastInDim S1225 ![] bcast_S_S1225 (constantI S_ 32 50#32))) t)

/-- The fields of a table, gathered. -/
def take (x : FVec F S4096x50x64 .f32) (t : IVec S1225 32) : FVec F S4096x1225x64 .f32 :=
  Host.gather gather_S4096x50x64_S1225x1_S4096x1225x64_02_1_n_n_1_1_4096164 x (starts t)

/-- The pairwise products. -/
def prod (x : FVec F S4096x50x64 .f32) : FVec F S4096x1225x64 .f32 :=
  mulf (take x fun i => lit0 (S1225.rowMajor i)) (take x fun i => lit1 (S1225.rowMajor i))

/-- The hidden layer. -/
def hidden (q : FVec F S4096x1225x64 .f32) (w1 : FVec F S64x64 .f32) (b1 : FVec F S64 .f32) : FVec F S4096x1225x64 .f32 :=
  maximumf (addf (Host.dotGeneral dot_S4096x1225x64_S64x64_S4096x1225x64_2_0_01_1_n_n none q w1)
    (broadcastInDim S4096x1225x64 ![0, 1, 2] bcast_S1x1x64_S4096x1225x64_0_1_2 (broadcastInDim S1x1x64 ![2] bcast_S64_S1x1x64_2 b1)))
    (broadcastInDim S4096x1225x64 ![] bcast_S_S4096x1225x64 (constant S_ .f32 0x00000000#32))

/-- The scores. -/
def logits (h : FVec F S4096x1225x64 .f32) (w2 : FVec F S64 .f32) : FVec F S4096x1225 .f32 :=
  Host.dotGeneral dot_S4096x1225x64_S64_S4096x1225_2_0_01_n_n_n none h w2

/-- The largest score of each row. -/
def rowMax (l : FVec F S4096x1225 .f32) : FVec F S4096 .f32 :=
  Host.reduce FloatOps.maximumf l (constant S_ .f32 0xFF800000#32) reducesTo_S4096x1225_S4096_d1 h_S_

/-- The exponentials of the scores less a row's largest. -/
def expo (l : FVec F S4096x1225 .f32) (m : FVec F S4096 .f32) : FVec F S4096x1225 .f32 :=
  Host.exp (subf l (broadcastInDim S4096x1225 ![0, 1] bcast_S4096x1_S4096x1225_0_1 (broadcastInDim S4096x1 ![0] bcast_S4096_S4096x1_0
    (maximumf (broadcastInDim S4096 ![] bcast_S_S4096 (constant S_ .f32 0xFF800000#32)) m))))

/-- The attention weights. -/
def attn (e : FVec F S4096x1225 .f32) : FVec F S4096x1225 .f32 :=
  Host.divf e (broadcastInDim S4096x1225 ![0, 1] bcast_S4096x1_S4096x1225_0_1 (broadcastInDim S4096x1 ![0] bcast_S4096_S4096x1_0
    (Host.reduceAdd e (constant S_ .f32 0x00000000#32) reducesTo_S4096x1225_S4096_d1 h_S_)))

/-- The weighted products, projected. -/
def result (a : FVec F S4096x1225 .f32) (q : FVec F S4096x1225x64 .f32) (p : FVec F S64 .f32) : FVec F S4096x1x1 .f32 :=
  broadcastInDim S4096x1x1 ![0] bcast_S4096_S4096x1x1_0 (Host.dotGeneral dot_S4096x64_S64_S4096_1_0_0_n_n_n none
    (Host.dotGeneral dot_S4096x1225_S4096x1225x64_S4096x64_1_1_n_2_0_0 none a q) p)

/-- The reference's result from the products and the scores. -/
def pooled (l : FVec F S4096x1225 .f32) (q : FVec F S4096x1225x64 .f32) (p : FVec F S64 .f32) : FVec F S4096x1x1 .f32 :=
  result (attn (expo l (rowMax l))) q p

/-- The reference's result of its five arguments. -/
def whole (x : FVec F S4096x50x64 .f32) (w1 : FVec F S64x64 .f32) (b1 w2 p : FVec F S64 .f32) : FVec F S4096x1x1 .f32 :=
  pooled (logits (hidden (prod x) w1 b1) w2) (prod x) p

end

/-- Gathering fields: row `b`, pair `p`, depth `d` is the operand at the pair's clamped field. -/
theorem gather_field (x : FVec Ideal S4096x50x64 .f32) (t : IVec S1225x1 32) (b : Fin 4096) (p : Fin 1225) (d : Fin 64) :
    Host.gather gather_S4096x50x64_S1225x1_S4096x1225x64_02_1_n_n_1_1_4096164 x t (ix3 b p d)
      = x (ix3 b ⟨min (t (ix2 p 0)).toInt.toNat 49, by omega⟩ d) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ =>
    unfold GatherDims.start
    rw [dif_neg (by decide +revert)]
    show 0 + b.val = b.val
    omega
  | ⟨1, _⟩ =>
    rw [GatherDims.offCoord_eq_zero _ _ _ (by decide +revert)]
    unfold GatherDims.start
    rw [dif_pos (by decide +revert)]
    have hsi : GatherDims.siIdx gather_S4096x50x64_S1225x1_S4096x1225x64_02_1_n_n_1_1_4096164 (ix3 b p d)
        ⟨List.idxOf (1 : Fin 3) [1], by decide⟩ = ix2 p 0 := by
      funext c
      match c with
      | ⟨0, _⟩ => rfl
      | ⟨1, _⟩ => rfl
    exact congrArg (fun i => min (t i).toInt.toNat 49) hsi
  | ⟨2, _⟩ =>
    unfold GatherDims.start
    rw [dif_neg (by decide +revert)]
    show 0 + d.val = d.val
    omega

/-- The start index of pair `p`. -/
theorem starts_val (t : IVec S1225 32) (p : Fin 1225) : starts t (ix2 p 0) = Tables.wrap (t (ix1 p)) := by
  pointwise [starts]
  unfold Tables.wrap Scalar.select IntOp.cmpi
  cases h : (t (ix1 p)).slt 0#32
  · simp [h]
  · simp [h]
    rfl

/-- The products of the pairs' fields. -/
theorem prod_val {x : FVec Ideal S4096x50x64 .f32} {X : Fin 4096 → Fin 50 → Fin 64 → ℝ}
    (hx : ∀ b f d, x (ix3 b f d) = ((X b f d : ℝ) : EReal)) (b : Fin 4096) (p : Fin 1225) (d : Fin 64) :
    prod x (ix3 b p d) = ((X b (Tables.i0 p) d * X b (Tables.i1 p) d : ℝ) : EReal) := by
  have r : S1225.rowMajor (ix1 p) = p := Fin.ext (Shape.rowMajor_val_one _)
  pointwise [prod, take]
  rw [gather_field, gather_field, hx, hx, ← EReal.coe_mul]
  simp only [starts_val, r]
  rfl

/-- The scores are those of the pairs. -/
theorem logits_val {x : FVec Ideal S4096x50x64 .f32} {w1 : FVec Ideal S64x64 .f32} {b1 w2 : FVec Ideal S64 .f32}
    {X : Fin 4096 → Fin 50 → Fin 64 → ℝ} {W : Fin 64 → Fin 64 → ℝ} {B W2 : Fin 64 → ℝ}
    (hx : ∀ b f d, x (ix3 b f d) = ((X b f d : ℝ) : EReal)) (hw : ∀ d a, w1 (ix2 d a) = ((W d a : ℝ) : EReal))
    (hb : ∀ a, b1 (ix1 a) = ((B a : ℝ) : EReal)) (hw2 : ∀ a, w2 (ix1 a) = ((W2 a : ℝ) : EReal)) (b : Fin 4096) (p : Fin 1225) :
    logits (hidden (prod x) w1 b1) w2 (ix2 b p)
      = ((score (X b (Tables.i0 p)) (X b (Tables.i1 p)) W B W2 : ℝ) : EReal) := by
  have h : ∀ a : Fin 64, hidden (prod x) w1 b1 (ix3 b p a)
      = ((max ((∑ d, X b (Tables.i0 p) d * X b (Tables.i1 p) d * W d a) + B a) 0 : ℝ) : EReal) := by
    intro a
    pointwise [hidden]
    simp only [prod_val hx, hw, hb, ← EReal.coe_mul, coe_sum]
    rw [← EReal.coe_add, ← EReal.coe_zero, ← EReal.coe_strictMono.monotone.map_max]
  pointwise [logits]
  simp only [h, hw2, ← EReal.coe_mul, coe_sum]
  unfold score
  simp only [mul_comm (W2 _)]

/-- The largest score of a row. -/
theorem rowMax_val (l : FVec Ideal S4096x1225 .f32) (b : Fin 4096) :
    rowMax l (ix1 b) = Finset.univ.fold max ⊥ fun k : Fin 1225 => l (ix2 b k) := by
  unfold rowMax
  rw [Host.reduce_eq_fold]
  simp only [pointwise]
  rw [← neg_inf_f32]

/-- The exponential of a score less a number. -/
theorem expo_val (l : FVec Ideal S4096x1225 .f32) (m : FVec Ideal S4096 .f32) (b : Fin 4096) (p : Fin 1225) :
    expo l m (ix2 b p) = Ideal.exp (l (ix2 b p) - max ⊥ (m (ix1 b))) := by
  pointwise [expo]
  rw [neg_inf_f32]

/-- The attention weights are the exponentials over their sum. -/
theorem attn_val (e : FVec Ideal S4096x1225 .f32) (b : Fin 4096) (p : Fin 1225) :
    attn e (ix2 b p) = Ideal.div (e (ix2 b p)) (∑ k, e (ix2 b k)) := by
  pointwise [attn]

/-- The weighted products, projected. -/
theorem result_val (a : FVec Ideal S4096x1225 .f32) (q : FVec Ideal S4096x1225x64 .f32) (w : FVec Ideal S64 .f32) (b : Fin 4096) :
    result a q w (ix3 b 0 0) = ∑ d, (∑ p, a (ix2 b p) * q (ix3 b p d)) * w (ix1 d) := by
  pointwise [result]

/-- Softmax pooling of real scores and products. -/
theorem pooled_val {l : FVec Ideal S4096x1225 .f32} {q : FVec Ideal S4096x1225x64 .f32} {w : FVec Ideal S64 .f32} {b : Fin 4096}
    {L : Fin 1225 → ℝ} {Q : Fin 1225 → Fin 64 → ℝ} {P : Fin 64 → ℝ} (hl : ∀ p, l (ix2 b p) = ((L p : ℝ) : EReal))
    (hq : ∀ p d, q (ix3 b p d) = ((Q p d : ℝ) : EReal)) (hw : ∀ d, w (ix1 d) = ((P d : ℝ) : EReal)) :
    pooled l q w (ix3 b 0 0) = ((wmean L fun p => ∑ d, Q p d * P d : ℝ) : EReal) := by
  obtain ⟨m, hm⟩ := fold_max_real (fun k : Fin 1225 => l (ix2 b k)) ⟨0, by omega⟩ (by rw [hl]; exact EReal.coe_ne_bot _)
    (fun k => by rw [hl]; exact EReal.coe_ne_top _)
  have he : ∀ p, expo l (rowMax l) (ix2 b p) = ((Real.exp (L p - m) : ℝ) : EReal) := by
    intro p
    rw [expo_val, rowMax_val, hm, hl, max_eq_right bot_le, ← EReal.coe_sub, Ideal.exp_coe]
  have ha : ∀ p, attn (expo l (rowMax l)) (ix2 b p) = ((Real.exp (L p - m) / ∑ p, Real.exp (L p - m) : ℝ) : EReal) := by
    intro p
    rw [attn_val]
    simp only [he, coe_sum]
    exact div_real _ _ (sum_exp_pos (by omega) fun p => L p - m).ne'
  unfold pooled
  rw [result_val]
  simp only [ha, hq, hw, ← EReal.coe_mul, coe_sum]
  rw [project_mean (fun p => L p - m) Q P, wmean_shift]

/-- THE REFERENCE'S RESULT at row `b` is the pooling of the row over the pairs. -/
theorem whole_val {x : FVec Ideal S4096x50x64 .f32} {w1 : FVec Ideal S64x64 .f32} {b1 w2 w : FVec Ideal S64 .f32}
    {X : Fin 4096 → Fin 50 → Fin 64 → ℝ} {W : Fin 64 → Fin 64 → ℝ} {B W2 P : Fin 64 → ℝ}
    (hx : ∀ b f d, x (ix3 b f d) = ((X b f d : ℝ) : EReal)) (hw : ∀ d a, w1 (ix2 d a) = ((W d a : ℝ) : EReal))
    (hb : ∀ a, b1 (ix1 a) = ((B a : ℝ) : EReal)) (hw2 : ∀ a, w2 (ix1 a) = ((W2 a : ℝ) : EReal))
    (hp : ∀ a, w (ix1 a) = ((P a : ℝ) : EReal)) (b : Fin 4096) :
    whole x w1 b1 w2 w (ix3 b 0 0) = ((pool Tables.i0 Tables.i1 (X b) W B W2 P : ℝ) : EReal) :=
  pooled_val (fun p => logits_val hx hw hb hw2 b p) (fun p d => prod_val hx b p d) hp

open TcCoe in
/-- The reference's result is `whole` of its arguments. -/
theorem res_eq (m : (ℓ : Loc nD τ sig) → Buf (Elt Ideal) ℓ) (c : Dev nD) :
    (Value.res_main_v34 m c : FVec Ideal S4096x1x1 .f32)
      = whole (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Cert.ReferenceIdeal.Parts

end
-- ==== Proof.FiniteArgs.lean ====
/- The precondition, read: every entry of every argument is a real. -/
module

public import proofs.«01_k».proof.Pre_finite
public import proofs.«01_k».proof.Proof.Consts
public import proofs.«01_k».proof.Proof.Reals
public import Idealize.ShloMosaic.Lib.ReduceAll
public import Idealize.ShloMosaic.Lib.Affine
public import Idealize.ShloMosaic.Lib.Pipeline.ValueKit

@[expose] public section

noncomputable section

namespace Cert.FiniteArgs

open Cert.Pre_finite Cert.Pre_finite.Facts Cert.Reals Cert.Consts Idealize.ShloMosaic

variable [Cert.Pre_finite.Facts]

/-- One argument's part of the precondition: if all its magnitudes are below infinity, each entry is a real. -/
theorem real_of_all {s : Shape} {axes : List (Fin s.rank)} (x : FVec Ideal s .f32) (hb : S_.BroadcastsInDim s ![]) (hr : s.ReducesTo axes S_)
    (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : (x i : EReal) = (((x i : EReal).toReal : ℝ) : EReal) := by
  haveI : Subsingleton S_.Idx := ⟨fun a b => funext fun d => Fin.elim0 d⟩
  have h := Host.reduce_andi_all _ _ hr hu j e i
  pointwise at h
  have h' := of_decide_eq_true ((show ∀ v : Bool, BitVec.ofBool v = 1#1 → v = true by decide) _ h)
  rw [inf_f32] at h'
  exact real_of_abs_lt h'

/-- Two truth bits are one together. -/
theorem and_one : ∀ {c d : BitVec 1}, IntOp.andi c d = 1#1 → c = 1#1 ∧ d = 1#1 := by
  decide

/-- The whole precondition. -/
theorem real_args (x : FVec Ideal S4096x50x64 .f32) (w1 : FVec Ideal S64x64 .f32) (b1 w2 p : FVec Ideal S64 .f32)
    (h : Cert.Pre_finite.fn (F := Ideal) x w1 b1 w2 p = fun _ => 1#1) :
    (∀ i, (x i : EReal) = (((x i : EReal).toReal : ℝ) : EReal)) ∧ (∀ i, (w1 i : EReal) = (((w1 i : EReal).toReal : ℝ) : EReal))
      ∧ (∀ i, (b1 i : EReal) = (((b1 i : EReal).toReal : ℝ) : EReal)) ∧ (∀ i, (w2 i : EReal) = (((w2 i : EReal).toReal : ℝ) : EReal))
      ∧ ∀ i, (p i : EReal) = (((p i : EReal).toReal : ℝ) : EReal) := by
  have e := congrFun h (fun d => Fin.elim0 d)
  dsimp only [fn, fn_part1] at e
  obtain ⟨e, e4⟩ := and_one e
  obtain ⟨e, e3⟩ := and_one e
  obtain ⟨e, e2⟩ := and_one e
  obtain ⟨e0, e1⟩ := and_one e
  exact ⟨real_of_all x _ _ _ _ e0, real_of_all w1 _ _ _ _ e1, real_of_all b1 _ _ _ _ e2, real_of_all w2 _ _ _ _ e3, real_of_all p _ _ _ _ e4⟩

end Cert.FiniteArgs

end
-- ==== Proof.lean ====
/- The claims of `Cert.Claim`: the three programs run and leave their arguments, the named mask constant is the
   kernel's literal, and over extended reals the kernel's predictions are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.RefParts
public import proofs.«01_k».proof.Proof.FiniteArgs
public import Idealize.ShloMosaic.Adequacy
public import Idealize.ShloMosaic.Init
public import Idealize.ShloMosaic.Lib.Quiescent

@[expose] public section

noncomputable section

namespace Cert.Proof

open Idealize.ShloMosaic Idealize.SL.Sem

/-- The shape relations that the precondition states. -/
theorem pre_facts : Cert.Pre_finite.Facts where
  bcast_S_S4096x50x64 := by decide
  reducesTo_S4096x50x64_S_d0_1_2 := by decide
  h_S_ := by decide
  bcast_S_S64x64 := by decide
  reducesTo_S64x64_S_d0_1 := by decide
  bcast_S_S64 := by decide
  reducesTo_S64_S_d0 := by decide

/-- The reference runs, leaves its arguments, and has no counter. -/
theorem frame_ref : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run m g)

/-- Under the precondition the kernel's arguments are real arrays. -/
theorem real_args (m : (ℓ : Loc Cert.KernelIdeal.nD Cert.KernelIdeal.τ Cert.KernelIdeal.sig) → Buf (Elt Ideal) ℓ)
    (h : Cert.Pre_KernelIdeal_finite (hPre_finite := pre_facts) m) (c : Dev Cert.KernelIdeal.nD) :
    ∃ X W B W2 P, Cert.KernelIdeal.KernelValue.RealArgs m c X W B W2 P := by
  haveI := pre_facts
  obtain ⟨h0, h1, h2, h3, h4⟩ := Cert.FiniteArgs.real_args _ _ _ _ _ (h c)
  exact ⟨_, _, _, _, _, ⟨fun n f d => h0 (ix3 n f d), fun d a => h1 (ix2 d a), fun a => h2 (ix1 a), fun a => h3 (ix1 a), fun a => h4 (ix1 a)⟩⟩

/-- From agreeing real arguments both programs compute the same predictions. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite (hPre_finite := pre_facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.res_main_v34 m' c : FVec Ideal ⟨3, ![4096, 1, 1]⟩ .f32)
      = (Cert.KernelIdeal.Gen.dats m 0 c).arrAt 8 Cert.KernelIdeal.cfg0.N := by
  obtain ⟨X, W, B, W2, P, h⟩ := real_args m hpre c
  refine Eq.trans ?_ (Cert.KernelIdeal.KernelValue.final h).symm
  refine (Cert.ReferenceIdeal.Parts.res_eq m' c).trans ?_
  funext y
  have e : y = ix3 (y (0 : Fin 3)) (0 : Fin 1) (0 : Fin 1) := by
    funext a
    have l1 : (y (1 : Fin 3)).val < 1 := (y (1 : Fin 3)).isLt
    have l2 : (y (2 : Fin 3)).val < 1 := (y (2 : Fin 3)).isLt
    fin_cases a
    · rfl
    · exact Fin.ext (by show (y (1 : Fin 3)).val = 0; omega)
    · exact Fin.ext (by show (y (2 : Fin 3)).val = 0; omega)
  rw [h0, h1, h2, h3, h4]
  exact (congrArg _ e).trans (Cert.ReferenceIdeal.Parts.whole_val h.hx h.hw h.hb h.hw2 h.hp (y (0 : Fin 3)))

/-- The kernel and the reference return equal results over extended reals. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hagree
  refine ⟨fun c => (Cert.KernelIdeal.Gen.dats m 0 c).arrAt 8 Cert.KernelIdeal.cfg0.N, Cert.KernelIdeal.Value.run_blocks m g,
    (θ_run (Cert.ReferenceIdeal.defs (F := Ideal)) _ _).mono (fun r h c => ⟨(h c).1.trans ?_, (h c).2⟩) (Cert.ReferenceIdeal.Value.run m' g')⟩
  obtain ⟨h0, h1, h2, h3, h4⟩ := hagree c
  exact values_agree m m' hpre c h0 h1 h2 h3 h4

/-- Everything claimed. -/
theorem claim : Cert.Claim := ⟨Cert.Kernel.Gen.facts, Cert.KernelIdeal.Gen.facts, Cert.ReferenceIdeal.Gen.facts, pre_facts,
  fun m g _ => Cert.Kernel.Gen.frame m g, fun m g _ => Cert.KernelIdeal.Gen.frame m g, fun m g _ => Cert.KernelIdeal.Gen.frame m g,
  frame_ref, fun m g _ => frame_ref m g trivial, IdealRules.named_const.statement Cert.KernelIdeal.κ "mask" .f32 0xF149F2CA#32 ⊥ rfl, algebraic⟩

end Cert.Proof

end
